-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_v223) = v1 c
          ∧ r.2.mem ((c.tc : Thread Cert.ReferenceIdeal.nD Cert.ReferenceIdeal.τ).loc Cert.ReferenceIdeal.main_v225) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x16384x864 : Shape := ⟨3, ![2, 16384, 864]⟩
abbrev S2x864 : Shape := ⟨2, ![2, 864]⟩
abbrev S16384x864 : Shape := ⟨2, ![16384, 864]⟩
abbrev S864 : Shape := ⟨1, ![864]⟩
abbrev S512x512 : Shape := ⟨2, ![512, 512]⟩
abbrev S64x64 : Shape := ⟨2, ![64, 64]⟩
abbrev S512x64 : Shape := ⟨2, ![512, 64]⟩
abbrev S_ : Shape := ⟨0, ![]⟩

class Facts : Prop where
  bcast_S_S2x16384x864 : S_.BroadcastsInDim S2x16384x864 (![] : Fin 0 → Fin S2x16384x864.rank)
  reducesTo_S2x16384x864_S_d0_1_2 : S2x16384x864.ReducesTo [0, 1, 2] S_
  h_S_ : 0 < S_.numel
  bcast_S_S2x864 : S_.BroadcastsInDim S2x864 (![] : Fin 0 → Fin S2x864.rank)
  reducesTo_S2x864_S_d0_1 : S2x864.ReducesTo [0, 1] S_
  bcast_S_S16384x864 : S_.BroadcastsInDim S16384x864 (![] : Fin 0 → Fin S16384x864.rank)
  reducesTo_S16384x864_S_d0_1 : S16384x864.ReducesTo [0, 1] S_
  bcast_S_S512x512 : S_.BroadcastsInDim S512x512 (![] : Fin 0 → Fin S512x512.rank)
  reducesTo_S512x512_S_d0_1 : S512x512.ReducesTo [0, 1] S_
  bcast_S_S64x64 : S_.BroadcastsInDim S64x64 (![] : Fin 0 → Fin S64x64.rank)
  reducesTo_S64x64_S_d0_1 : S64x64.ReducesTo [0, 1] S_
  bcast_S_S512x64 : S_.BroadcastsInDim S512x64 (![] : Fin 0 → Fin S512x64.rank)
  reducesTo_S512x64_S_d0_1 : S512x64.ReducesTo [0, 1] S_

variable [Facts]

def fn_part4 {F : FTy → Type} [FloatOps F] (main_v63 : IVec S_ 1) (main_v66 : IVec S512x64 1) (main_c_26 : IVec S_ 1) : IVec S_ 1 :=
  let main_v67 : IVec S_ 1 := (fun x v => Host.reduce IntOp.andi x v reducesTo_S512x64_S_d0_1 h_S_) main_v66 main_c_26
  let main_v68 : IVec S_ 1 := andi main_v63 main_v67
  main_v68

def fn_part3 {F : FTy → Type} [FloatOps F] (main_arg9 : IVec S64x64 8) (main_arg10 : FVec F S512x64 .f32) (main_arg11 : FVec F S512x64 .f32) (main_v44 : IVec S_ 1) (main_v49 : IVec S64x64 1) (main_c_19 : IVec S_ 1) : IVec S_ 1 :=
  let main_v50 : IVec S_ 1 := (fun x v => Host.reduce IntOp.andi x v reducesTo_S64x64_S_d0_1 h_S_) main_v49 main_c_19
  let main_v51 : IVec S_ 1 := andi main_v44 main_v50
  let main_c_20 : IVec S_ 8 := constantI S_ 8 127#8
  let main_v52 : IVec S64x64 8 := broadcastInDim S64x64 ![] bcast_S_S64x64 main_c_20
  let main_v53 : IVec S64x64 1 := cmpi .ne main_arg9 main_v52
  let main_c_21 : IVec S_ 8 := constantI S_ 8 255#8
  let main_v54 : IVec S64x64 8 := broadcastInDim S64x64 ![] bcast_S_S64x64 main_c_21
  let main_v55 : IVec S64x64 1 := cmpi .ne main_arg9 main_v54
  let main_v56 : IVec S64x64 1 := andi main_v53 main_v55
  let main_c_22 : IVec S_ 1 := constantI S_ 1 1#1
  let main_v57 : IVec S_ 1 := (fun x v => Host.reduce IntOp.andi x v reducesTo_S64x64_S_d0_1 h_S_) main_v56 main_c_22
  let main_v58 : IVec S_ 1 := andi main_v51 main_v57
  let main_v59 : FVec F S512x64 .f32 := Host.absf main_arg10
  let main_cst_23 : FVec F S_ .f32 := constant S_ .f32 0x7F800000#32
  let main_v60 : FVec F S512x64 .f32 := broadcastInDim S512x64 ![] bcast_S_S512x64 main_cst_23
  let main_v61 : IVec S512x64 1 := cmpf .olt main_v59 main_v60
  let main_c_24 : IVec S_ 1 := constantI S_ 1 1#1
  let main_v62 : IVec S_ 1 := (fun x v => Host.reduce IntOp.andi x v reducesTo_S512x64_S_d0_1 h_S_) main_v61 main_c_24
  let main_v63 : IVec S_ 1 := andi main_v58 main_v62
  let main_v64 : FVec F S512x64 .f32 := Host.absf main_arg11
  let main_cst_25 : FVec F S_ .f32 := constant S_ .f32 0x7F800000#32
  let main_v65 : FVec F S512x64 .f32 := broadcastInDim S512x64 ![] bcast_S_S512x64 main_cst_25
  let main_v66 : IVec S512x64 1 := cmpf .olt main_v64 main_v65
  let main_c_26 : IVec S_ 1 := constantI S_ 1 1#1
  fn_part4 (F := F) main_v63 main_v66 main_c_26

def fn_part2 {F : FTy → Type} [FloatOps F] (main_arg6 : IVec S512x512 8) (main_arg7 : IVec S512x512 8) (main_arg8 : IVec S64x64 8) (main_arg9 : IVec S64x64 8) (main_arg10 : FVec F S512x64 .f32) (main_arg11 : FVec F S512x64 .f32) (main_v30 : IVec S_ 1) (main_v32 : IVec S512x512 1) (main_c_12 : IVec S_ 8) : IVec S_ 1 :=
  let main_v33 : IVec S512x512 8 := broadcastInDim S512x512 ![] bcast_S_S512x512 main_c_12
  let main_v34 : IVec S512x512 1 := cmpi .ne main_arg6 main_v33
  let main_v35 : IVec S512x512 1 := andi main_v32 main_v34
  let main_c_13 : IVec S_ 1 := constantI S_ 1 1#1
  let main_v36 : IVec S_ 1 := (fun x v => Host.reduce IntOp.andi x v reducesTo_S512x512_S_d0_1 h_S_) main_v35 main_c_13
  let main_v37 : IVec S_ 1 := andi main_v30 main_v36
  let main_c_14 : IVec S_ 8 := constantI S_ 8 127#8
  let main_v38 : IVec S512x512 8 := broadcastInDim S512x512 ![] bcast_S_S512x512 main_c_14
  let main_v39 : IVec S512x512 1 := cmpi .ne main_arg7 main_v38
  let main_c_15 : IVec S_ 8 := constantI S_ 8 255#8
  let main_v40 : IVec S512x512 8 := broadcastInDim S512x512 ![] bcast_S_S512x512 main_c_15
  let main_v41 : IVec S512x512 1 := cmpi .ne main_arg7 main_v40
  let main_v42 : IVec S512x512 1 := andi main_v39 main_v41
  let main_c_16 : IVec S_ 1 := constantI S_ 1 1#1
  let main_v43 : IVec S_ 1 := (fun x v => Host.reduce IntOp.andi x v reducesTo_S512x512_S_d0_1 h_S_) main_v42 main_c_16
  let main_v44 : IVec S_ 1 := andi main_v37 main_v43
  let main_c_17 : IVec S_ 8 := constantI S_ 8 127#8
  let main_v45 : IVec S64x64 8 := broadcastInDim S64x64 ![] bcast_S_S64x64 main_c_17
  let main_v46 : IVec S64x64 1 := cmpi .ne main_arg8 main_v45
  let main_c_18 : IVec S_ 8 := constantI S_ 8 255#8
  let main_v47 : IVec S64x64 8 := broadcastInDim S64x64 ![] bcast_S_S64x64 main_c_18
  let main_v48 : IVec S64x64 1 := cmpi .ne main_arg8 main_v47
  let main_v49 : IVec S64x64 1 := andi main_v46 main_v48
  let main_c_19 : IVec S_ 1 := constantI S_ 1 1#1
  fn_part3 (F := F) main_arg9 main_arg10 main_arg11 main_v44 main_v49 main_c_19

def fn_part1 {F : FTy → Type} [FloatOps F] (main_arg2 : IVec S2x16384x864 8) (main_arg3 : FVec F S2x864 .f32) (main_arg4 : FVec F S16384x864 .f32) (main_arg6 : IVec S512x512 8) (main_arg7 : IVec S512x512 8) (main_arg8 : IVec S64x64 8) (main_arg9 : IVec S64x64 8) (main_arg10 : FVec F S512x64 .f32) (main_arg11 : FVec F S512x64 .f32) (main_v10 : IVec S_ 1) (main_v12 : IVec S2x16384x864 1) (main_v14 : IVec S2x16384x864 1) (main_v15 : IVec S2x16384x864 8) : IVec S_ 1 :=
  let main_v16 : IVec S2x16384x864 1 := cmpi .ult main_arg2 main_v15
  let main_v17 : IVec S2x16384x864 1 := andi main_v14 main_v16
  let main_v18 : IVec S2x16384x864 1 := ori main_v12 main_v17
  let main_c_6 : IVec S_ 1 := constantI S_ 1 1#1
  let main_v19 : IVec S_ 1 := (fun x v => Host.reduce IntOp.andi x v reducesTo_S2x16384x864_S_d0_1_2 h_S_) main_v18 main_c_6
  let main_v20 : IVec S_ 1 := andi main_v10 main_v19
  let main_v21 : FVec F S2x864 .f32 := Host.absf main_arg3
  let main_cst_7 : FVec F S_ .f32 := constant S_ .f32 0x7F800000#32
  let main_v22 : FVec F S2x864 .f32 := broadcastInDim S2x864 ![] bcast_S_S2x864 main_cst_7
  let main_v23 : IVec S2x864 1 := cmpf .olt main_v21 main_v22
  let main_c_8 : IVec S_ 1 := constantI S_ 1 1#1
  let main_v24 : IVec S_ 1 := (fun x v => Host.reduce IntOp.andi x v reducesTo_S2x864_S_d0_1 h_S_) main_v23 main_c_8
  let main_v25 : IVec S_ 1 := andi main_v20 main_v24
  let main_v26 : FVec F S16384x864 .f32 := Host.absf main_arg4
  let main_cst_9 : FVec F S_ .f32 := constant S_ .f32 0x7F800000#32
  let main_v27 : FVec F S16384x864 .f32 := broadcastInDim S16384x864 ![] bcast_S_S16384x864 main_cst_9
  let main_v28 : IVec S16384x864 1 := cmpf .olt main_v26 main_v27
  let main_c_10 : IVec S_ 1 := constantI S_ 1 1#1
  let main_v29 : IVec S_ 1 := (fun x v => Host.reduce IntOp.andi x v reducesTo_S16384x864_S_d0_1 h_S_) main_v28 main_c_10
  let main_v30 : IVec S_ 1 := andi main_v25 main_v29
  let main_c_11 : IVec S_ 8 := constantI S_ 8 127#8
  let main_v31 : IVec S512x512 8 := broadcastInDim S512x512 ![] bcast_S_S512x512 main_c_11
  let main_v32 : IVec S512x512 1 := cmpi .ne main_arg6 main_v31
  let main_c_12 : IVec S_ 8 := constantI S_ 8 255#8
  fn_part2 (F := F) main_arg6 main_arg7 main_arg8 main_arg9 main_arg10 main_arg11 main_v30 main_v32 main_c_12

def fn {F : FTy → Type} [FloatOps F] (main_arg0 : IVec S2x16384x864 8) (main_arg1 : FVec F S2x864 .f32) (main_arg2 : IVec S2x16384x864 8) (main_arg3 : FVec F S2x864 .f32) (main_arg4 : FVec F S16384x864 .f32) (main_arg5 : FVec F S864 .f32) (main_arg6 : IVec S512x512 8) (main_arg7 : IVec S512x512 8) (main_arg8 : IVec S64x64 8) (main_arg9 : IVec S64x64 8) (main_arg10 : FVec F S512x64 .f32) (main_arg11 : FVec F S512x64 .f32) : IVec S_ 1 :=
  let main_c : IVec S_ 8 := constantI S_ 8 127#8
  let main_v0 : IVec S2x16384x864 8 := broadcastInDim S2x16384x864 ![] bcast_S_S2x16384x864 main_c
  let main_v1 : IVec S2x16384x864 1 := cmpi .ne main_arg0 main_v0
  let main_c_0 : IVec S_ 8 := constantI S_ 8 255#8
  let main_v2 : IVec S2x16384x864 8 := broadcastInDim S2x16384x864 ![] bcast_S_S2x16384x864 main_c_0
  let main_v3 : IVec S2x16384x864 1 := cmpi .ne main_arg0 main_v2
  let main_v4 : IVec S2x16384x864 1 := andi main_v1 main_v3
  let main_c_1 : IVec S_ 1 := constantI S_ 1 1#1
  let main_v5 : IVec S_ 1 := (fun x v => Host.reduce IntOp.andi x v reducesTo_S2x16384x864_S_d0_1_2 h_S_) main_v4 main_c_1
  let main_v6 : FVec F S2x864 .f32 := Host.absf main_arg1
  let main_cst : FVec F S_ .f32 := constant S_ .f32 0x7F800000#32
  let main_v7 : FVec F S2x864 .f32 := broadcastInDim S2x864 ![] bcast_S_S2x864 main_cst
  let main_v8 : IVec S2x864 1 := cmpf .olt main_v6 main_v7
  let main_c_2 : IVec S_ 1 := constantI S_ 1 1#1
  let main_v9 : IVec S_ 1 := (fun x v => Host.reduce IntOp.andi x v reducesTo_S2x864_S_d0_1 h_S_) main_v8 main_c_2
  let main_v10 : IVec S_ 1 := andi main_v5 main_v9
  let main_c_3 : IVec S_ 8 := constantI S_ 8 124#8
  let main_v11 : IVec S2x16384x864 8 := broadcastInDim S2x16384x864 ![] bcast_S_S2x16384x864 main_c_3
  let main_v12 : IVec S2x16384x864 1 := cmpi .ult main_arg2 main_v11
  let main_c_4 : IVec S_ 8 := constantI S_ 8 128#8
  let main_v13 : IVec S2x16384x864 8 := broadcastInDim S2x16384x864 ![] bcast_S_S2x16384x864 main_c_4
  let main_v14 : IVec S2x16384x864 1 := cmpi .uge main_arg2 main_v13
  let main_c_5 : IVec S_ 8 := constantI S_ 8 252#8
  let main_v15 : IVec S2x16384x864 8 := broadcastInDim S2x16384x864 ![] bcast_S_S2x16384x864 main_c_5
  fn_part1 (F := F) main_arg2 main_arg3 main_arg4 main_arg6 main_arg7 main_arg8 main_arg9 main_arg10 main_arg11 main_v10 main_v12 main_v14 main_v15
-- ==== Kernel.lean ====
abbrev S2x16384x864 : Shape := ⟨3, ![2, 16384, 864]⟩
abbrev S2x864 : Shape := ⟨2, ![2, 864]⟩
abbrev S16384x864 : Shape := ⟨2, ![16384, 864]⟩
abbrev S864 : Shape := ⟨1, ![864]⟩
abbrev S512x512 : Shape := ⟨2, ![512, 512]⟩
abbrev S64x64 : Shape := ⟨2, ![64, 64]⟩
abbrev S512x64 : Shape := ⟨2, ![512, 64]⟩
abbrev S2x256x64x864 : Shape := ⟨4, ![2, 256, 64, 864]⟩
abbrev S2x864x256x64 : Shape := ⟨4, ![2, 864, 256, 64]⟩
abbrev S2x864x64x256 : Shape := ⟨4, ![2, 864, 64, 256]⟩
abbrev S256x64x864 : Shape := ⟨3, ![256, 64, 864]⟩
abbrev S864x256x64 : Shape := ⟨3, ![864, 256, 64]⟩
abbrev S864x64x256 : Shape := ⟨3, ![864, 64, 256]⟩
abbrev S512x256 : Shape := ⟨2, ![512, 256]⟩
abbrev S256x512 : Shape := ⟨2, ![256, 512]⟩
abbrev S256x1024 : Shape := ⟨2, ![256, 1024]⟩
abbrev S1024x256 : Shape := ⟨2, ![1024, 256]⟩
abbrev S1x864 : Shape := ⟨2, ![1, 864]⟩
abbrev S64x512 : Shape := ⟨2, ![64, 512]⟩
abbrev S864x1x128 : Shape := ⟨3, ![864, 1, 128]⟩
abbrev S2x4x64x256 : Shape := ⟨4, ![2, 4, 64, 256]⟩
abbrev S4x64x256 : Shape := ⟨3, ![4, 64, 256]⟩
abbrev S4x1x128 : Shape := ⟨3, ![4, 1, 128]⟩
abbrev S5x4x2x128x256 : Shape := ⟨5, ![5, 4, 2, 128, 256]⟩
abbrev S3x4x2x128x256 : Shape := ⟨5, ![3, 4, 2, 128, 256]⟩
abbrev S768x1024 : Shape := ⟨2, ![768, 1024]⟩
abbrev S1x4x64x256 : Shape := ⟨4, ![1, 4, 64, 256]⟩
abbrev S256x256 : Shape := ⟨2, ![256, 256]⟩
abbrev S64x256 : Shape := ⟨2, ![64, 256]⟩
abbrev S1x1x1x64x256 : Shape := ⟨5, ![1, 1, 1, 64, 256]⟩
abbrev S64x128 : Shape := ⟨2, ![64, 128]⟩
abbrev S128x128 : Shape := ⟨2, ![128, 128]⟩
abbrev S1x1x1x128x256 : Shape := ⟨5, ![1, 1, 1, 128, 256]⟩
abbrev S128x256 : Shape := ⟨2, ![128, 256]⟩
abbrev S1x1 : Shape := ⟨2, ![1, 1]⟩
abbrev S768x256 : Shape := ⟨2, ![768, 256]⟩
abbrev S1x1x64x256 : Shape := ⟨4, ![1, 1, 64, 256]⟩
abbrev S256 : Shape := ⟨1, ![256]⟩
abbrev S1x256 : Shape := ⟨2, ![1, 256]⟩
abbrev S1x1x256 : Shape := ⟨3, ![1, 1, 256]⟩
abbrev S1 : Shape := ⟨1, ![1]⟩
abbrev S1x1x1 : Shape := ⟨3, ![1, 1, 1]⟩
abbrev S128 : Shape := ⟨1, ![128]⟩
abbrev S1x1x128 : Shape := ⟨3, ![1, 1, 128]⟩
abbrev S1x64x256 : Shape := ⟨3, ![1, 64, 256]⟩

abbrev nBuf : Space → Nat
  | .hbm => 44
  | .vmem => 21
  | .smem => 3
  | _ => 0

abbrev bufTy : (tb : Table) → Fin (tcTables nBuf tb) → BufTy
  | .hbm, ⟨0, _⟩ => ⟨S2x16384x864, .i8⟩
  | .hbm, ⟨1, _⟩ => ⟨S2x864, .f32⟩
  | .hbm, ⟨2, _⟩ => ⟨S2x16384x864, .i8⟩
  | .hbm, ⟨3, _⟩ => ⟨S2x864, .f32⟩
  | .hbm, ⟨4, _⟩ => ⟨S16384x864, .f32⟩
  | .hbm, ⟨5, _⟩ => ⟨S864, .f32⟩
  | .hbm, ⟨6, _⟩ => ⟨S512x512, .i8⟩
  | .hbm, ⟨7, _⟩ => ⟨S512x512, .i8⟩
  | .hbm, ⟨8, _⟩ => ⟨S64x64, .i8⟩
  | .hbm, ⟨9, _⟩ => ⟨S64x64, .i8⟩
  | .hbm, ⟨10, _⟩ => ⟨S512x64, .f32⟩
  | .hbm, ⟨11, _⟩ => ⟨S512x64, .f32⟩
  | .hbm, ⟨12, _⟩ => ⟨S2x16384x864, .fp8e4m3⟩
  | .hbm, ⟨13, _⟩ => ⟨S2x16384x864, .fp8e5m2⟩
  | .hbm, ⟨14, _⟩ => ⟨S512x512, .fp8e4m3⟩
  | .hbm, ⟨15, _⟩ => ⟨S512x512, .fp8e4m3⟩
  | .hbm, ⟨16, _⟩ => ⟨S64x64, .fp8e4m3⟩
  | .hbm, ⟨17, _⟩ => ⟨S64x64, .fp8e4m3⟩
  | .hbm, ⟨18, _⟩ => ⟨S2x256x64x864, .fp8e4m3⟩
  | .hbm, ⟨19, _⟩ => ⟨S2x864x256x64, .fp8e4m3⟩
  | .hbm, ⟨20, _⟩ => ⟨S2x864x64x256, .fp8e4m3⟩
  | .hbm, ⟨21, _⟩ => ⟨S2x256x64x864, .fp8e5m2⟩
  | .hbm, ⟨22, _⟩ => ⟨S2x864x256x64, .fp8e5m2⟩
  | .hbm, ⟨23, _⟩ => ⟨S2x864x64x256, .fp8e5m2⟩
  | .hbm, ⟨24, _⟩ => ⟨S16384x864, .bf16⟩
  | .hbm, ⟨25, _⟩ => ⟨S256x64x864, .bf16⟩
  | .hbm, ⟨26, _⟩ => ⟨S864x256x64, .bf16⟩
  | .hbm, ⟨27, _⟩ => ⟨S864x64x256, .bf16⟩
  | .hbm, ⟨28, _⟩ => ⟨S512x256, .fp8e4m3⟩
  | .hbm, ⟨29, _⟩ => ⟨S256x512, .fp8e4m3⟩
  | .hbm, ⟨30, _⟩ => ⟨S512x256, .fp8e4m3⟩
  | .hbm, ⟨31, _⟩ => ⟨S256x512, .fp8e4m3⟩
  | .hbm, ⟨32, _⟩ => ⟨S256x1024, .fp8e4m3⟩
  | .hbm, ⟨33, _⟩ => ⟨S256x512, .fp8e4m3⟩
  | .hbm, ⟨34, _⟩ => ⟨S512x256, .fp8e4m3⟩
  | .hbm, ⟨35, _⟩ => ⟨S256x512, .fp8e4m3⟩
  | .hbm, ⟨36, _⟩ => ⟨S512x256, .fp8e4m3⟩
  | .hbm, ⟨37, _⟩ => ⟨S1024x256, .fp8e4m3⟩
  | .hbm, ⟨38, _⟩ => ⟨S1x864, .f32⟩
  | .hbm, ⟨39, _⟩ => ⟨S64x512, .f32⟩
  | .hbm, ⟨40, _⟩ => ⟨S64x512, .f32⟩
  | .hbm, ⟨41, _⟩ => ⟨S2x864x64x256, .bf16⟩
  | .hbm, ⟨42, _⟩ => ⟨S864x64x256, .f32⟩
  | .hbm, ⟨43, _⟩ => ⟨S864x1x128, .f32⟩
  | .local _ .vmem, ⟨0, _⟩ => ⟨S2x4x64x256, .fp8e4m3⟩
  | .local _ .vmem, ⟨1, _⟩ => ⟨S2x4x64x256, .fp8e4m3⟩
  | .local _ .vmem, ⟨2, _⟩ => ⟨S2x4x64x256, .fp8e5m2⟩
  | .local _ .vmem, ⟨3, _⟩ => ⟨S2x4x64x256, .fp8e5m2⟩
  | .local _ .vmem, ⟨4, _⟩ => ⟨S4x64x256, .bf16⟩
  | .local _ .vmem, ⟨5, _⟩ => ⟨S4x64x256, .bf16⟩
  | .local _ .vmem, ⟨6, _⟩ => ⟨S256x1024, .fp8e4m3⟩
  | .local _ .vmem, ⟨7, _⟩ => ⟨S1024x256, .fp8e4m3⟩
  | .local _ .vmem, ⟨8, _⟩ => ⟨S64x64, .fp8e4m3⟩
  | .local _ .vmem, ⟨9, _⟩ => ⟨S64x64, .fp8e4m3⟩
  | .local _ .vmem, ⟨10, _⟩ => ⟨S64x512, .f32⟩
  | .local _ .vmem, ⟨11, _⟩ => ⟨S64x512, .f32⟩
  | .local _ .vmem, ⟨12, _⟩ => ⟨S2x4x64x256, .bf16⟩
  | .local _ .vmem, ⟨13, _⟩ => ⟨S2x4x64x256, .bf16⟩
  | .local _ .vmem, ⟨14, _⟩ => ⟨S4x64x256, .f32⟩
  | .local _ .vmem, ⟨15, _⟩ => ⟨S4x64x256, .f32⟩
  | .local _ .vmem, ⟨16, _⟩ => ⟨S4x1x128, .f32⟩
  | .local _ .vmem, ⟨17, _⟩ => ⟨S4x1x128, .f32⟩
  | .local _ .vmem, ⟨18, _⟩ => ⟨S5x4x2x128x256, .bf16⟩
  | .local _ .vmem, ⟨19, _⟩ => ⟨S3x4x2x128x256, .bf16⟩
  | .local _ .vmem, ⟨20, _⟩ => ⟨S768x1024, .bf16⟩
  | .local _ .smem, ⟨0, _⟩ => ⟨S2x864, .f32⟩
  | .local _ .smem, ⟨1, _⟩ => ⟨S2x864, .f32⟩
  | .local _ .smem, ⟨2, _⟩ => ⟨S1x864, .f32⟩
  | _, _ => ⟨S2x16384x864, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29_0 : Ref sig .tc := ⟨.hbm, 41, rfl⟩
abbrev main_v29_1 : Ref sig .tc := ⟨.hbm, 42, rfl⟩
abbrev main_v29_2 : Ref sig .tc := ⟨.hbm, 43, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![216], ![false]⟩

def k0_off1 (i : grid0.Coords) (c0_i32 : BitVec 32) : Fin 2 → Nat :=
  let c0_514 : Index := 0#32
  let arg0 : BitVec 32 := BitVec.ofNat 32 (i 0).val
  let c4_i32 : BitVec 32 := 4#32
  let v766 : BitVec 32 := Scalar.muli arg0 c4_i32
  let v767 : BitVec 32 := Scalar.addi v766 c0_i32
  let v773 : Index := Scalar.indexCast v767
  ![0, v773.toNat]
def k0_off2 (i : grid0.Coords) (c0_i32 : BitVec 32) : Fin 2 → Nat :=
  let c1_538 : Index := 1#32
  let arg0 : BitVec 32 := BitVec.ofNat 32 (i 0).val
  let c4_i32 : BitVec 32 := 4#32
  let v766 : BitVec 32 := Scalar.muli arg0 c4_i32
  let v767 : BitVec 32 := Scalar.addi v766 c0_i32
  let v814 : Index := Scalar.indexCast v767
  ![1, v814.toNat]
def k0_off3 (i : grid0.Coords) (c0_i32_1358 : BitVec 32) : Fin 2 → Nat :=
  let c0_1369 : Index := 0#32
  let arg0 : BitVec 32 := BitVec.ofNat 32 (i 0).val
  let c4_i32_1357 : BitVec 32 := 4#32
  let v2097 : BitVec 32 := Scalar.muli arg0 c4_i32_1357
  let v2098 : BitVec 32 := Scalar.addi v2097 c0_i32_1358
  let v2111 : Index := Scalar.indexCast v2098
  ![0, v2111.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x864 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x4x64x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x64x256 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x4x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x64x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4x1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S2x16384x864 : Shape := ⟨3, ![2, 16384, 864]⟩
abbrev S2x864 : Shape := ⟨2, ![2, 864]⟩
abbrev S16384x864 : Shape := ⟨2, ![16384, 864]⟩
abbrev S864 : Shape := ⟨1, ![864]⟩
abbrev S512x512 : Shape := ⟨2, ![512, 512]⟩
abbrev S64x64 : Shape := ⟨2, ![64, 64]⟩
abbrev S512x64 : Shape := ⟨2, ![512, 64]⟩
abbrev S512x256 : Shape := ⟨2, ![512, 256]⟩
abbrev S256x512 : Shape := ⟨2, ![256, 512]⟩
abbrev S256x64x864 : Shape := ⟨3, ![256, 64, 864]⟩
abbrev S512x64x864 : Shape := ⟨3, ![512, 64, 864]⟩
abbrev S512x64x1 : Shape := ⟨3, ![512, 64, 1]⟩
abbrev S64x512x864 : Shape := ⟨3, ![64, 512, 864]⟩
abbrev S2x256x64x864 : Shape := ⟨4, ![2, 256, 64, 864]⟩
abbrev S2x1x1x864 : Shape := ⟨4, ![2, 1, 1, 864]⟩
abbrev S2x64x864x512 : Shape := ⟨4, ![2, 64, 864, 512]⟩
abbrev S2x512x64x864 : Shape := ⟨4, ![2, 512, 64, 864]⟩
abbrev S1x512x64x1 : Shape := ⟨4, ![1, 512, 64, 1]⟩
abbrev S64x2x512x864 : Shape := ⟨4, ![64, 2, 512, 864]⟩
abbrev S_ : Shape := ⟨0, ![]⟩
abbrev S1x512x64x864 : Shape := ⟨4, ![1, 512, 64, 864]⟩
abbrev S2x64x864x256 : Shape := ⟨4, ![2, 64, 864, 256]⟩
abbrev S2x1x864 : Shape := ⟨3, ![2, 1, 864]⟩
abbrev S1x1x864 : Shape := ⟨3, ![1, 1, 864]⟩
abbrev S2x864x64x256 : Shape := ⟨4, ![2, 864, 64, 256]⟩
abbrev S864x64x256 : Shape := ⟨3, ![864, 64, 256]⟩
abbrev S864x1x1 : Shape := ⟨3, ![864, 1, 1]⟩
abbrev S864x1x128 : Shape := ⟨3, ![864, 1, 128]⟩

abbrev nBuf : Space → Nat
  | .hbm => 248
  | .vmem => 12
  | .smem => 0
  | _ => 0

abbrev hbmTy0_0 (i : Nat) : BufTy := match i % 128 with
  | 0 => ⟨S2x16384x864, .i8⟩
  | 1 => ⟨S2x864, .f32⟩
  | 2 => ⟨S2x16384x864, .i8⟩
  | 3 => ⟨S2x864, .f32⟩
  | 4 => ⟨S16384x864, .f32⟩
  | 5 => ⟨S864, .f32⟩
  | 6 => ⟨S512x512, .i8⟩
  | 7 => ⟨S512x512, .i8⟩
  | 8 => ⟨S64x64, .i8⟩
  | 9 => ⟨S64x64, .i8⟩
  | 10 => ⟨S512x64, .f32⟩
  | 11 => ⟨S512x64, .f32⟩
  | 12 => ⟨S2x16384x864, .fp8e4m3⟩
  | 13 => ⟨S2x16384x864, .fp8e5m2⟩
  | 14 => ⟨S512x512, .fp8e4m3⟩
  | 15 => ⟨S512x512, .fp8e4m3⟩
  | 16 => ⟨S64x64, .fp8e4m3⟩
  | 17 => ⟨S64x64, .fp8e4m3⟩
  | 18 => ⟨S2x16384x864, .bf16⟩
  | 19 => ⟨S2x16384x864, .bf16⟩
  | 20 => ⟨S512x512, .bf16⟩
  | 21 => ⟨S512x512, .bf16⟩
  | 22 => ⟨S64x64, .bf16⟩
  | 23 => ⟨S64x64, .bf16⟩
  | 24 => ⟨S512x256, .bf16⟩
  | 25 => ⟨S512x256, .bf16⟩
  | 26 => ⟨S256x512, .bf16⟩
  | 27 => ⟨S256x512, .bf16⟩
  | 28 => ⟨S16384x864, .bf16⟩
  | 29 => ⟨S256x64x864, .bf16⟩
  | 30 => ⟨S512x64x864, .f32⟩
  | 31 => ⟨S512x64x864, .f32⟩
  | 32 => ⟨S512x64x1, .f32⟩
  | 33 => ⟨S512x64x1, .f32⟩
  | 34 => ⟨S512x64x864, .f32⟩
  | 35 => ⟨S512x64x864, .f32⟩
  | 36 => ⟨S512x64x864, .f32⟩
  | 37 => ⟨S512x64x864, .f32⟩
  | 38 => ⟨S512x64x864, .f32⟩
  | 39 => ⟨S512x64x864, .f32⟩
  | 40 => ⟨S512x64x864, .f32⟩
  | 41 => ⟨S512x64x864, .f32⟩
  | 42 => ⟨S512x64x864, .f32⟩
  | 43 => ⟨S512x64x864, .f32⟩
  | 44 => ⟨S512x64x864, .bf16⟩
  | 45 => ⟨S512x64x864, .bf16⟩
  | 46 => ⟨S64x512x864, .f32⟩
  | 47 => ⟨S512x64x864, .f32⟩
  | 48 => ⟨S64x512x864, .f32⟩
  | 49 => ⟨S512x64x864, .f32⟩
  | 50 => ⟨S512x64x864, .f32⟩
  | 51 => ⟨S64x512x864, .f32⟩
  | 52 => ⟨S512x64x864, .f32⟩
  | 53 => ⟨S64x512x864, .f32⟩
  | 54 => ⟨S512x64x864, .f32⟩
  | 55 => ⟨S512x64x864, .f32⟩
  | 56 => ⟨S2x256x64x864, .bf16⟩
  | 57 => ⟨S2x1x1x864, .f32⟩
  | 58 => ⟨S2x64x864x512, .f32⟩
  | 59 => ⟨S2x512x64x864, .f32⟩
  | 60 => ⟨S2x512x64x864, .f32⟩
  | 61 => ⟨S2x512x64x864, .f32⟩
  | 62 => ⟨S2x64x864x512, .f32⟩
  | 63 => ⟨S2x512x64x864, .f32⟩
  | 64 => ⟨S2x512x64x864, .f32⟩
  | 65 => ⟨S2x512x64x864, .f32⟩
  | 66 => ⟨S512x64x1, .f32⟩
  | 67 => ⟨S512x64x1, .f32⟩
  | 68 => ⟨S1x512x64x1, .f32⟩
  | 69 => ⟨S2x512x64x864, .f32⟩
  | 70 => ⟨S2x512x64x864, .f32⟩
  | 71 => ⟨S1x512x64x1, .f32⟩
  | 72 => ⟨S2x512x64x864, .f32⟩
  | 73 => ⟨S2x512x64x864, .f32⟩
  | 74 => ⟨S2x512x64x864, .f32⟩
  | 75 => ⟨S1x512x64x1, .f32⟩
  | 76 => ⟨S2x512x64x864, .f32⟩
  | 77 => ⟨S2x512x64x864, .f32⟩
  | 78 => ⟨S1x512x64x1, .f32⟩
  | 79 => ⟨S2x512x64x864, .f32⟩
  | 80 => ⟨S2x512x64x864, .f32⟩
  | 81 => ⟨S2x512x64x864, .f32⟩
  | 82 => ⟨S2x512x64x864, .bf16⟩
  | 83 => ⟨S2x512x64x864, .bf16⟩
  | 84 => ⟨S64x2x512x864, .f32⟩
  | 85 => ⟨S2x512x64x864, .f32⟩
  | 86 => ⟨S64x2x512x864, .f32⟩
  | 87 => ⟨S2x512x64x864, .f32⟩
  | 88 => ⟨S2x512x64x864, .f32⟩
  | 89 => ⟨S64x2x512x864, .f32⟩
  | 90 => ⟨S2x512x64x864, .f32⟩
  | 91 => ⟨S64x2x512x864, .f32⟩
  | 92 => ⟨S2x512x64x864, .f32⟩
  | 93 => ⟨S2x512x64x864, .f32⟩
  | 94 => ⟨S2x256x64x864, .bf16⟩
  | 95 => ⟨S2x1x1x864, .f32⟩
  | 96 => ⟨S2x64x864x512, .f32⟩
  | 97 => ⟨S2x512x64x864, .f32⟩
  | 98 => ⟨S2x512x64x864, .f32⟩
  | 99 => ⟨S2x512x64x864, .f32⟩
  | 100 => ⟨S2x64x864x512, .f32⟩
  | 101 => ⟨S2x512x64x864, .f32⟩
  | 102 => ⟨S2x512x64x864, .f32⟩
  | 103 => ⟨S2x512x64x864, .f32⟩
  | 104 => ⟨S512x64x1, .f32⟩
  | 105 => ⟨S512x64x1, .f32⟩
  | 106 => ⟨S1x512x64x1, .f32⟩
  | 107 => ⟨S2x512x64x864, .f32⟩
  | 108 => ⟨S2x512x64x864, .f32⟩
  | 109 => ⟨S1x512x64x1, .f32⟩
  | 110 => ⟨S2x512x64x864, .f32⟩
  | 111 => ⟨S2x512x64x864, .f32⟩
  | 112 => ⟨S2x512x64x864, .f32⟩
  | 113 => ⟨S1x512x64x1, .f32⟩
  | 114 => ⟨S2x512x64x864, .f32⟩
  | 115 => ⟨S2x512x64x864, .f32⟩
  | 116 => ⟨S1x512x64x1, .f32⟩
  | 117 => ⟨S2x512x64x864, .f32⟩
  | 118 => ⟨S2x512x64x864, .f32⟩
  | 119 => ⟨S2x512x64x864, .f32⟩
  | 120 => ⟨S2x512x64x864, .bf16⟩
  | 121 => ⟨S2x512x64x864, .bf16⟩
  | 122 => ⟨S64x2x512x864, .f32⟩
  | 123 => ⟨S2x512x64x864, .f32⟩
  | 124 => ⟨S64x2x512x864, .f32⟩
  | 125 => ⟨S2x512x64x864, .f32⟩
  | 126 => ⟨S2x512x64x864, .f32⟩
  | 127 => ⟨S64x2x512x864, .f32⟩
  | _ => ⟨S2x16384x864, .i8⟩

abbrev hbmTy0_1 (i : Nat) : BufTy := match i % 128 with
  | 0 => ⟨S2x512x64x864, .f32⟩
  | 1 => ⟨S64x2x512x864, .f32⟩
  | 2 => ⟨S2x512x64x864, .f32⟩
  | 3 => ⟨S2x512x64x864, .f32⟩
  | 4 => ⟨S2x512x64x864, .f32⟩
  | 5 => ⟨S2x512x64x864, .f32⟩
  | 6 => ⟨S2x512x64x864, .f32⟩
  | 7 => ⟨S_, .f32⟩
  | 8 => ⟨S512x64x864, .f32⟩
  | 9 => ⟨S512x64x864, .bf16⟩
  | 10 => ⟨S2x512x64x864, .f32⟩
  | 11 => ⟨S2x512x64x864, .f32⟩
  | 12 => ⟨S2x512x64x864, .f32⟩
  | 13 => ⟨S_, .f32⟩
  | 14 => ⟨S512x64x864, .f32⟩
  | 15 => ⟨S512x64x864, .bf16⟩
  | 16 => ⟨S64x512x864, .f32⟩
  | 17 => ⟨S512x64x864, .f32⟩
  | 18 => ⟨S64x512x864, .f32⟩
  | 19 => ⟨S512x64x864, .f32⟩
  | 20 => ⟨S512x64x864, .f32⟩
  | 21 => ⟨S64x512x864, .f32⟩
  | 22 => ⟨S512x64x864, .f32⟩
  | 23 => ⟨S64x512x864, .f32⟩
  | 24 => ⟨S512x64x864, .f32⟩
  | 25 => ⟨S512x64x864, .f32⟩
  | 26 => ⟨S512x64x1, .f32⟩
  | 27 => ⟨S512x64x1, .f32⟩
  | 28 => ⟨S512x64x864, .f32⟩
  | 29 => ⟨S512x64x864, .f32⟩
  | 30 => ⟨S512x64x864, .f32⟩
  | 31 => ⟨S512x64x864, .f32⟩
  | 32 => ⟨S512x64x864, .f32⟩
  | 33 => ⟨S512x64x864, .bf16⟩
  | 34 => ⟨S512x64x864, .f32⟩
  | 35 => ⟨S512x64x864, .f32⟩
  | 36 => ⟨S512x64x864, .f32⟩
  | 37 => ⟨S512x64x864, .f32⟩
  | 38 => ⟨S512x64x864, .f32⟩
  | 39 => ⟨S512x64x864, .bf16⟩
  | 40 => ⟨S256x64x864, .f32⟩
  | 41 => ⟨S256x64x864, .f32⟩
  | 42 => ⟨S256x64x864, .f32⟩
  | 43 => ⟨S16384x864, .f32⟩
  | 44 => ⟨S_, .f32⟩
  | 45 => ⟨S16384x864, .f32⟩
  | 46 => ⟨S16384x864, .f32⟩
  | 47 => ⟨S1x512x64x864, .f32⟩
  | 48 => ⟨S2x512x64x864, .f32⟩
  | 49 => ⟨S2x512x64x864, .f32⟩
  | 50 => ⟨S1x512x64x864, .f32⟩
  | 51 => ⟨S2x512x64x864, .f32⟩
  | 52 => ⟨S2x512x64x864, .f32⟩
  | 53 => ⟨S2x512x64x864, .f32⟩
  | 54 => ⟨S2x512x64x864, .bf16⟩
  | 55 => ⟨S1x512x64x864, .f32⟩
  | 56 => ⟨S2x512x64x864, .f32⟩
  | 57 => ⟨S2x512x64x864, .f32⟩
  | 58 => ⟨S1x512x64x864, .f32⟩
  | 59 => ⟨S2x512x64x864, .f32⟩
  | 60 => ⟨S2x512x64x864, .f32⟩
  | 61 => ⟨S2x512x64x864, .f32⟩
  | 62 => ⟨S2x512x64x864, .bf16⟩
  | 63 => ⟨S64x2x512x864, .f32⟩
  | 64 => ⟨S2x512x64x864, .f32⟩
  | 65 => ⟨S64x2x512x864, .f32⟩
  | 66 => ⟨S2x512x64x864, .f32⟩
  | 67 => ⟨S2x512x64x864, .f32⟩
  | 68 => ⟨S64x2x512x864, .f32⟩
  | 69 => ⟨S2x512x64x864, .f32⟩
  | 70 => ⟨S64x2x512x864, .f32⟩
  | 71 => ⟨S2x512x64x864, .f32⟩
  | 72 => ⟨S2x512x64x864, .f32⟩
  | 73 => ⟨S512x64x1, .f32⟩
  | 74 => ⟨S512x64x1, .f32⟩
  | 75 => ⟨S1x512x64x1, .f32⟩
  | 76 => ⟨S2x512x64x864, .f32⟩
  | 77 => ⟨S2x512x64x864, .f32⟩
  | 78 => ⟨S1x512x64x1, .f32⟩
  | 79 => ⟨S2x512x64x864, .f32⟩
  | 80 => ⟨S2x512x64x864, .f32⟩
  | 81 => ⟨S2x512x64x864, .f32⟩
  | 82 => ⟨S2x512x64x864, .bf16⟩
  | 83 => ⟨S1x512x64x1, .f32⟩
  | 84 => ⟨S2x512x64x864, .f32⟩
  | 85 => ⟨S2x512x64x864, .f32⟩
  | 86 => ⟨S1x512x64x1, .f32⟩
  | 87 => ⟨S2x512x64x864, .f32⟩
  | 88 => ⟨S2x512x64x864, .f32⟩
  | 89 => ⟨S2x512x64x864, .f32⟩
  | 90 => ⟨S2x512x64x864, .bf16⟩
  | 91 => ⟨S2x64x864x256, .f32⟩
  | 92 => ⟨S2x256x64x864, .f32⟩
  | 93 => ⟨S2x64x864x256, .f32⟩
  | 94 => ⟨S2x256x64x864, .f32⟩
  | 95 => ⟨S2x256x64x864, .f32⟩
  | 96 => ⟨S2x16384x864, .f32⟩
  | 97 => ⟨S2x1x864, .f32⟩
  | 98 => ⟨S2x16384x864, .f32⟩
  | 99 => ⟨S2x16384x864, .f32⟩
  | 100 => ⟨S2x16384x864, .f32⟩
  | 101 => ⟨S_, .f32⟩
  | 102 => ⟨S2x16384x864, .f32⟩
  | 103 => ⟨S2x16384x864, .f32⟩
  | 104 => ⟨S1x1x864, .f32⟩
  | 105 => ⟨S2x16384x864, .f32⟩
  | 106 => ⟨S2x16384x864, .f32⟩
  | 107 => ⟨S2x16384x864, .f32⟩
  | 108 => ⟨S2x16384x864, .bf16⟩
  | 109 => ⟨S2x864, .f32⟩
  | 110 => ⟨S2x864, .f32⟩
  | 111 => ⟨S2x864, .f32⟩
  | 112 => ⟨S_, .f32⟩
  | 113 => ⟨S864, .f32⟩
  | 114 => ⟨S2x256x64x864, .bf16⟩
  | 115 => ⟨S2x864x64x256, .bf16⟩
  | 116 => ⟨S256x64x864, .f32⟩
  | 117 => ⟨S864x64x256, .f32⟩
  | 118 => ⟨S864x1x1, .f32⟩
  | 119 => ⟨S864x1x128, .f32⟩
  | _ => ⟨S2x16384x864, .i8⟩

abbrev hbmTy (i : Nat) : BufTy := match i / 128 with
  | 0 => hbmTy0_0 i
  | 1 => hbmTy0_1 i
  | _ => ⟨S2x16384x864, .i8⟩

abbrev bufTy : (tb : Table) → Fin (tcTables nBuf tb) → BufTy
  | .hbm, ⟨i, _⟩ => hbmTy i
  | .local _ .vmem, ⟨0, _⟩ => ⟨S2x16384x864, .fp8e4m3⟩
  | .local _ .vmem, ⟨1, _⟩ => ⟨S2x16384x864, .fp8e5m2⟩
  | .local _ .vmem, ⟨2, _⟩ => ⟨S512x512, .fp8e4m3⟩
  | .local _ .vmem, ⟨3, _⟩ => ⟨S512x512, .fp8e4m3⟩
  | .local _ .vmem, ⟨4, _⟩ => ⟨S64x64, .fp8e4m3⟩
  | .local _ .vmem, ⟨5, _⟩ => ⟨S64x64, .fp8e4m3⟩
  | .local _ .vmem, ⟨6, _⟩ => ⟨S2x16384x864, .bf16⟩
  | .local _ .vmem, ⟨7, _⟩ => ⟨S2x16384x864, .bf16⟩
  | .local _ .vmem, ⟨8, _⟩ => ⟨S512x512, .bf16⟩
  | .local _ .vmem, ⟨9, _⟩ => ⟨S512x512, .bf16⟩
  | .local _ .vmem, ⟨10, _⟩ => ⟨S64x64, .bf16⟩
  | .local _ .vmem, ⟨11, _⟩ => ⟨S64x64, .bf16⟩
  | _, _ => ⟨S2x16384x864, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_cst : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_cst_0 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_v132 : Ref sig .tc := ⟨.hbm, 151, rfl⟩
abbrev main_v133 : Ref sig .tc := ⟨.hbm, 152, rfl⟩
abbrev main_v134 : Ref sig .tc := ⟨.hbm, 153, rfl⟩
abbrev main_v135 : Ref sig .tc := ⟨.hbm, 154, rfl⟩
abbrev main_v136 : Ref sig .tc := ⟨.hbm, 155, rfl⟩
abbrev main_v137 : Ref sig .tc := ⟨.hbm, 156, rfl⟩
abbrev main_v138 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_v142 : Ref sig .tc := ⟨.hbm, 161, rfl⟩
abbrev main_v143 : Ref sig .tc := ⟨.hbm, 162, rfl⟩
abbrev main_v144 : Ref sig .tc := ⟨.hbm, 163, rfl⟩
abbrev main_v145 : Ref sig .tc := ⟨.hbm, 164, rfl⟩
abbrev main_v146 : Ref sig .tc := ⟨.hbm, 165, rfl⟩
abbrev main_v147 : Ref sig .tc := ⟨.hbm, 166, rfl⟩
abbrev main_v148 : Ref sig .tc := ⟨.hbm, 167, rfl⟩
abbrev main_v149 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_cst_1 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_cst_2 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_cst_3 : Ref sig .tc := ⟨.hbm, 240, rfl⟩
abbrev main_v219 : Ref sig .tc := ⟨.hbm, 241, rfl⟩
abbrev main_v220 : Ref sig .tc := ⟨.hbm, 242, rfl⟩
abbrev main_v221 : Ref sig .tc := ⟨.hbm, 243, rfl⟩
abbrev main_v222 : Ref sig .tc := ⟨.hbm, 244, rfl⟩
abbrev main_v223 : Ref sig .tc := ⟨.hbm, 245, rfl⟩
abbrev main_v224 : Ref sig .tc := ⟨.hbm, 246, rfl⟩
abbrev main_v225 : Ref sig .tc := ⟨.hbm, 247, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S2x16384x864 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16384x864 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x64 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x64 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x16384x864 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x16384x864 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Dft.lean ====
/- The transform one channel goes through, stage by stage, over the extended reals: no program is imported here. -/
module

public import Idealize.ShloMosaic.Lib.Pointwise

@[expose] public section

noncomputable section

namespace Cert.Dft

/-- The tables of the transform: the first stage `fr`/`fi` (in-row, out-row), its inverse `ir`/`ii`, the second stage
    `gr`/`gi` and the twiddles `tr`/`ti`. -/
@[ext] structure Tab where
  fr : Fin 256 → Fin 512 → EReal
  fi : Fin 256 → Fin 512 → EReal
  ir : Fin 512 → Fin 256 → EReal
  ii : Fin 512 → Fin 256 → EReal
  gr : Fin 64 → Fin 64 → EReal
  gi : Fin 64 → Fin 64 → EReal
  tr : Fin 64 → Fin 512 → EReal
  ti : Fin 64 → Fin 512 → EReal

/-- The first stage and the twiddle of one channel `x`, real part, at frequency row `J` and column `n`. -/
def bRe (T : Tab) (x : Fin 64 → Fin 256 → EReal) (J : Fin 512) (n : Fin 64) : EReal :=
  (∑ m, x n m * T.fr m J) * T.tr n J - (∑ m, x n m * T.fi m J) * T.ti n J

/-- The first stage and the twiddle of one channel `x`, imaginary part. -/
def bIm (T : Tab) (x : Fin 64 → Fin 256 → EReal) (J : Fin 512) (n : Fin 64) : EReal :=
  (∑ m, x n m * T.fr m J) * T.ti n J + (∑ m, x n m * T.fi m J) * T.tr n J

/-- The second stage, real part, of a column pair `a`, `b`. -/
def sRe (T : Tab) (a b : Fin 64 → EReal) (k : Fin 64) : EReal :=
  ∑ n, T.gr k n * a n + ∑ n, -T.gi k n * b n

/-- The second stage, imaginary part. -/
def sIm (T : Tab) (a b : Fin 64 → EReal) (k : Fin 64) : EReal :=
  ∑ n, T.gi k n * a n + ∑ n, T.gr k n * b n

/-- The spectrum of the channel `x`, real part. -/
def spRe (T : Tab) (x : Fin 64 → Fin 256 → EReal) (J : Fin 512) (k : Fin 64) : EReal := sRe T (bRe T x J) (bIm T x J) k

/-- The spectrum of the channel `x`, imaginary part. -/
def spIm (T : Tab) (x : Fin 64 → Fin 256 → EReal) (J : Fin 512) (k : Fin 64) : EReal := sIm T (bRe T x J) (bIm T x J) k

/-- The product of the conjugate of one spectrum with another, real part. -/
def zRe (T : Tab) (x y : Fin 64 → Fin 256 → EReal) (J : Fin 512) (k : Fin 64) : EReal :=
  spRe T x J k * spRe T y J k + spIm T x J k * spIm T y J k

/-- The product of the conjugate of one spectrum with another, imaginary part. -/
def zIm (T : Tab) (x y : Fin 64 → Fin 256 → EReal) (J : Fin 512) (k : Fin 64) : EReal :=
  spRe T x J k * spIm T y J k - spIm T x J k * spRe T y J k

/-- The second stage of the inverse transform and its twiddle, real part. -/
def dRe (T : Tab) (a b : Fin 64 → EReal) (J : Fin 512) (n : Fin 64) : EReal :=
  (∑ k, T.gr n k * a k + ∑ k, T.gi n k * b k) * T.tr n J + (∑ k, -T.gi n k * a k + ∑ k, T.gr n k * b k) * T.ti n J

/-- The second stage of the inverse transform and its twiddle, imaginary part. -/
def dIm (T : Tab) (a b : Fin 64 → EReal) (J : Fin 512) (n : Fin 64) : EReal :=
  (∑ k, -T.gi n k * a k + ∑ k, T.gr n k * b k) * T.tr n J - (∑ k, T.gr n k * a k + ∑ k, T.gi n k * b k) * T.ti n J

/-- The inverse transform of the spectrum pair `a`, `b` (frequency row, then column). -/
def inv (T : Tab) (a b : Fin 512 → Fin 64 → EReal) (n : Fin 64) (m : Fin 256) : EReal :=
  ∑ J, dRe T (a J) (b J) J n * T.ir J m + ∑ J, dIm T (a J) (b J) J n * T.ii J m

end Cert.Dft

end
-- ==== Proof.KB.lean ====
module

public import proofs.«01_k».proof.Proof.Gen.KernelIdeal.Value
public import proofs.«01_k».proof.Proof.Dft
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem Cert.Dft

/-- The tables, read off the staged blocks. -/
def tab (x6 : Vec Ideal S256x1024 .fp8e4m3) (x7 : Vec Ideal S1024x256 .fp8e4m3) (x8 x9 : Vec Ideal S64x64 .fp8e4m3)
    (x10 x11 : Vec Ideal S64x512 .f32) : Tab where
  fr m J := x6 (ix2 m ⟨J, by omega⟩)
  fi m J := x6 (ix2 m ⟨512 + J, by omega⟩)
  ir J m := x7 (ix2 ⟨J, by omega⟩ m)
  ii J m := x7 (ix2 ⟨512 + J, by omega⟩ m)
  gr k n := x8 (ix2 k n)
  gi k n := x9 (ix2 k n)
  tr n J := x10 (ix2 n J)
  ti n J := x11 (ix2 n J)

/-- Channel `ch` of signal `s` of the block: the two batches of the input, the two of the gradient, the filter. -/
def sg (x3 : Vec Ideal S2x4x64x256 .fp8e4m3) (x4 : Vec Ideal S2x4x64x256 .fp8e5m2) (x5 : Vec Ideal S4x64x256 .bf16)
    (s : ℕ) (ch : Fin 4) (n : Fin 64) (m : Fin 256) : EReal :=
  if h : s < 2 then x3 (ix4 ⟨s, h⟩ ch n m)
  else if h : s - 2 < 2 then x4 (ix4 ⟨s - 2, h⟩ ch n m) else x5 (ix3 ch n m)

/-- What a point leaves in the first scratch, from the signals and the tables. -/
def BG (T : Tab) (g : ℕ → Fin 4 → Fin 64 → Fin 256 → EReal) : S5x4x2x128x256.Idx → Elt Ideal .bf16 := fun y =>
  if h : (y 3 : ℕ) < 64 then bRe T (g (y 0) (y 1)) ⟨256 * (y 2) + (y 4), by have := (y 2).2; have := (y 4).2; simp at *; omega⟩ ⟨y 3, h⟩
  else bIm T (g (y 0) (y 1)) ⟨256 * (y 2) + (y 4), by have := (y 2).2; have := (y 4).2; simp at *; omega⟩ ⟨y 3 - 64, by have := (y 3).2; simp at *; omega⟩

/-- A stored real half of the first scratch: a slice of the first stage's product, twiddled. -/
def payRe {φ φ' : FTy} (X : FVec Ideal S256x256 φ) (Fr Fi : FVec Ideal S256x256 φ') (Tr Ti : FVec Ideal S64x256 .f32) (o : ℕ)
    (h : S256x256.Slices ![o, 0] S64x256) : FVec Ideal S1x1x1x64x256 .bf16 :=
  shapeCast S1x1x1x64x256 (truncf .bf16 (subf
    (mulf (extractStridedSlice S64x256 ![o, 0] (matmul dot_S256x256_S256x256_S256x256_1_0_0_1_n_n none X Fr (constant S256x256 .f32 0x00000000#32)) h) Tr)
    (mulf (extractStridedSlice S64x256 ![o, 0] (matmul dot_S256x256_S256x256_S256x256_1_0_0_1_n_n none X Fi (constant S256x256 .f32 0x00000000#32)) h) Ti))
    bitsLt_bf16_f32) shapeCasts_S64x256_S1x1x1x64x256

/-- A stored imaginary half of the first scratch. -/
def payIm {φ φ' : FTy} (X : FVec Ideal S256x256 φ) (Fr Fi : FVec Ideal S256x256 φ') (Tr Ti : FVec Ideal S64x256 .f32) (o : ℕ)
    (h : S256x256.Slices ![o, 0] S64x256) : FVec Ideal S1x1x1x64x256 .bf16 :=
  shapeCast S1x1x1x64x256 (truncf .bf16 (addf
    (mulf (extractStridedSlice S64x256 ![o, 0] (matmul dot_S256x256_S256x256_S256x256_1_0_0_1_n_n none X Fr (constant S256x256 .f32 0x00000000#32)) h) Ti)
    (mulf (extractStridedSlice S64x256 ![o, 0] (matmul dot_S256x256_S256x256_S256x256_1_0_0_1_n_n none X Fi (constant S256x256 .f32 0x00000000#32)) h) Tr))
    bitsLt_bf16_f32) shapeCasts_S64x256_S1x1x1x64x256

section
variable {φ φ' : FTy} (X : FVec Ideal S256x256 φ) (Fr Fi : FVec Ideal S256x256 φ') (Tr Ti : FVec Ideal S64x256 .f32) (o : ℕ)
    (h : S256x256.Slices ![o, 0] S64x256) (T : Tab) (s : Fin 64 → Fin 256 → EReal) (J : Fin 256 → Fin 512)
    (hX : ∀ n m h, X (ix2 ⟨o + (n : Fin 64), h⟩ m) = s n m) (hr : ∀ m j, Fr (ix2 m j) = T.fr m (J j)) (hi : ∀ m j, Fi (ix2 m j) = T.fi m (J j))
    (htr : ∀ n j, Tr (ix2 n j) = T.tr n (J j)) (hti : ∀ n j, Ti (ix2 n j) = T.ti n (J j)) (x : S1x1x1x64x256.Idx)

include hX hr hi htr hti

/-- A stored real half, read at an index, is the transform's. -/
theorem payRe_apply : payRe X Fr Fi Tr Ti o h x = bRe T s (J (x 4)) (x 3) := by
  idx_vars x
  pointwise [payRe, hX, hr, hi, htr, hti, bRe]

/-- A stored imaginary half, read at an index, is the transform's. -/
theorem payIm_apply : payIm X Fr Fi Tr Ti o h x = bIm T s (J (x 4)) (x 3) := by
  idx_vars x
  pointwise [payIm, hX, hr, hi, htr, hti, bIm]

end

section
variable (T : Tab) (g : ℕ → Fin 4 → Fin 64 → Fin 256 → EReal) (s ch jt : ℕ) (x0 x1 x2 : Fin 1) (x3 : Fin 64) (x4 : Fin 256)

/-- The first scratch's function at an index of a real half. -/
theorem BG_re (inb) (hc : ch < 4) (hj : jt < 2) :
    BG T g ((Rect.unit (s := S5x4x2x128x256) ![s, ch, jt, 0, 0] S1x1x1x64x256.size inb).emb (ix5 x0 x1 x2 x3 x4))
    = bRe T (g s ⟨ch, hc⟩) ⟨256 * jt + x4, by omega⟩ x3 := by
  have e : (Rect.unit (s := S5x4x2x128x256) ![s, ch, jt, 0, 0] ![1, 1, 1, 64, 256] inb).emb (ix5 x0 x1 x2 x3 x4) 1 = (⟨ch, hc⟩ : Fin 4) := Fin.ext (by blk_simp)
  blk_simp [BG]
  rw [dif_pos x3.2, e]

/-- The first scratch's function at an index of an imaginary half. -/
theorem BG_im (inb) (hc : ch < 4) (hj : jt < 2) :
    BG T g ((Rect.unit (s := S5x4x2x128x256) ![s, ch, jt, 64, 0] S1x1x1x64x256.size inb).emb (ix5 x0 x1 x2 x3 x4))
    = bIm T (g s ⟨ch, hc⟩) ⟨256 * jt + x4, by omega⟩ x3 := by
  have e : (Rect.unit (s := S5x4x2x128x256) ![s, ch, jt, 64, 0] ![1, 1, 1, 64, 256] inb).emb (ix5 x0 x1 x2 x3 x4) 1 = (⟨ch, hc⟩ : Fin 4) := Fin.ext (by blk_simp)
  blk_simp [BG]
  rw [dif_neg (by omega), e]
  congr 1
  exact Fin.ext (by simp)
end

section
variable (arg4 : Memref sig .tc .vmem S2x4x64x256 .fp8e4m3) (harg4 : arg4.IsWhole) (arg5 : Memref sig .tc .vmem S2x4x64x256 .fp8e5m2) (harg5 : arg5.IsWhole)
  (arg6 : Memref sig .tc .vmem S4x64x256 .bf16) (harg6 : arg6.IsWhole) (arg7 : Memref sig .tc .vmem S256x1024 .fp8e4m3) (harg7 : arg7.IsWhole)
  (arg11 : Memref sig .tc .vmem S64x512 .f32) (harg11 : arg11.IsWhole) (arg12 : Memref sig .tc .vmem S64x512 .f32) (harg12 : arg12.IsWhole)
  (x3 : Vec Ideal S2x4x64x256 .fp8e4m3) (x4 : Vec Ideal S2x4x64x256 .fp8e5m2) (x5 : Vec Ideal S4x64x256 .bf16)
  (x6 : Vec Ideal S256x1024 .fp8e4m3) (x7 : Vec Ideal S1024x256 .fp8e4m3) (x8 x9 : Vec Ideal S64x64 .fp8e4m3)
  (x10 x11 : Vec Ideal S64x512 .f32)

/-- A signal of the input, loaded and flattened. -/
def ldU (b : ℕ) (inb : ∀ a, (![b, 0, 0, 0] : Fin 4 → ℕ) a + S1x4x64x256.size a ≤ S2x4x64x256.size a) : FVec Ideal S256x256 .fp8e4m3 :=
  shapeCast S256x256 (shapeCast S4x64x256 (View.readAt (Elt Ideal) arg4.view (Rect.unit (s := S2x4x64x256) ![b, 0, 0, 0] S1x4x64x256.size inb).toLoadRect (harg4.unread x3))
    shapeCasts_S1x4x64x256_S4x64x256) shapeCasts_S4x64x256_S256x256

/-- A signal of the gradient, loaded and flattened. -/
def ldY (b : ℕ) (inb : ∀ a, (![b, 0, 0, 0] : Fin 4 → ℕ) a + S1x4x64x256.size a ≤ S2x4x64x256.size a) : FVec Ideal S256x256 .fp8e5m2 :=
  shapeCast S256x256 (shapeCast S4x64x256 (View.readAt (Elt Ideal) arg5.view (Rect.unit (s := S2x4x64x256) ![b, 0, 0, 0] S1x4x64x256.size inb).toLoadRect (harg5.unread x4))
    shapeCasts_S1x4x64x256_S4x64x256) shapeCasts_S4x64x256_S256x256

/-- The filter, loaded and flattened. -/
def ldK (inb : ∀ a, (![0, 0, 0] : Fin 3 → ℕ) a + S4x64x256.size a ≤ S4x64x256.size a) : FVec Ideal S256x256 .bf16 :=
  shapeCast S256x256 (shapeCast S4x64x256 (View.readAt (Elt Ideal) arg6.view (Rect.unit (s := S4x64x256) ![0, 0, 0] S4x64x256.size inb).toLoadRect (harg6.unread x5))
    shapeCasts_S4x64x256_S4x64x256) shapeCasts_S4x64x256_S256x256

/-- A table column range, sliced off the table loaded whole. -/
def ldG (q : ℕ) (inb : ∀ a, (![0, 0] : Fin 2 → ℕ) a + S256x1024.size a ≤ S256x1024.size a) (h : S256x1024.Slices ![0, q] S256x256) : FVec Ideal S256x256 .bf16 :=
  extractStridedSlice S256x256 ![0, q] (extf .bf16 (shapeCast S256x1024 (View.readAt (Elt Ideal) arg7.view
    (Rect.unit (s := S256x1024) ![0, 0] S256x1024.size inb).toLoadRect (harg7.unread x6)) shapeCasts_S256x1024_S256x1024) bitsLt_fp8e4m3_bf16) h

/-- A table column range, loaded. -/
def ldF (q : ℕ) (inb : ∀ a, (![0, q] : Fin 2 → ℕ) a + S256x256.size a ≤ S256x1024.size a) : FVec Ideal S256x256 .fp8e4m3 :=
  shapeCast S256x256 (View.readAt (Elt Ideal) arg7.view (Rect.unit (s := S256x1024) ![0, q] S256x256.size inb).toLoadRect (harg7.unread x6)) shapeCasts_S256x256_S256x256

/-- A twiddle column range, loaded. -/
def ldT (arg : Memref sig .tc .vmem S64x512 .f32) (harg : arg.IsWhole) (x : Vec Ideal S64x512 .f32) (q : ℕ)
    (inb : ∀ a, (![0, q] : Fin 2 → ℕ) a + S64x256.size a ≤ S64x512.size a) : FVec Ideal S64x256 .f32 :=
  shapeCast S64x256 (View.readAt (Elt Ideal) arg.view (Rect.unit (s := S64x512) ![0, q] S64x256.size inb).toLoadRect (harg.unread x)) shapeCasts_S64x256_S64x256

/-- Flattening four channels of 64 columns, read at column `n` of channel `ch`. -/
theorem flat_apply {φ : FTy} (X : FVec Ideal S4x64x256 φ) (o ch : ℕ) (hc : ch < 4) (ho : o = 64 * ch) (n : Fin 64) (m : Fin 256) (h) :
    shapeCast S256x256 X shapeCasts_S4x64x256_S256x256 (ix2 ⟨o + n, h⟩ m) = X (ix3 ⟨ch, hc⟩ n m) := by
  have e : ∀ r : Fin 256, shapeCast S256x256 X shapeCasts_S4x64x256_S256x256 (ix2 r m)
      = X (ix3 ⟨r / 64, by omega⟩ ⟨r % 64, by omega⟩ m) := fun r => by pointwise
  refine (e _).trans (congrArg X ?_)
  rw [ix3_inj]
  exact ⟨Fin.ext (by simp only []; omega), Fin.ext (by simp only []; omega), rfl⟩

/-- Dropping a unit axis, read at an index. -/
theorem drop_apply {φ : FTy} (X : FVec Ideal S1x4x64x256 φ) (c : Fin 4) (n : Fin 64) (m : Fin 256) :
    shapeCast S4x64x256 X shapeCasts_S1x4x64x256_S4x64x256 (ix3 c n m) = X (ix4 0 c n m) := by
  pointwise

/-- What the load of channel `ch` of batch `b` of the input block reads. -/
theorem ldU_apply (b o ch : ℕ) (inb) (hb : b < 2) (hc : ch < 4) (ho : o = 64 * ch) (n : Fin 64) (m : Fin 256) (h) :
    ldU arg4 harg4 x3 b inb (ix2 ⟨o + n, h⟩ m) = sg x3 x4 x5 b ⟨ch, hc⟩ n m := by
  rw [ldU, flat_apply _ o ch hc ho, View.readAt_eq_ld, harg4.read_unread, sg, dif_pos hb, drop_apply]
  refine View.ld_unit_apply_of _ _ _ _ _ _ fun a => ?_
  fin_cases a <;> simp

/-- What the load of channel `ch` of batch `b` of the output gradient block reads. -/
theorem ldY_apply (b o ch : ℕ) (inb) (hb : b < 2) (hc : ch < 4) (ho : o = 64 * ch) (n : Fin 64) (m : Fin 256) (h) :
    ldY arg5 harg5 x4 b inb (ix2 ⟨o + n, h⟩ m) = sg x3 x4 x5 (b + 2) ⟨ch, hc⟩ n m := by
  rw [ldY, flat_apply _ o ch hc ho, View.readAt_eq_ld, harg5.read_unread, sg, dif_neg (by omega), dif_pos (by omega), drop_apply]
  refine View.ld_unit_apply_of _ _ _ _ _ _ fun a => ?_
  fin_cases a <;> simp

/-- What the load of channel `ch` of the filter block reads. -/
theorem ldK_apply (o ch : ℕ) (inb) (hc : ch < 4) (ho : o = 64 * ch) (n : Fin 64) (m : Fin 256) (h) :
    ldK arg6 harg6 x5 inb (ix2 ⟨o + n, h⟩ m) = sg x3 x4 x5 4 ⟨ch, hc⟩ n m := by
  rw [ldK, flat_apply _ o ch hc ho, View.readAt_eq_ld, harg6.read_unread, sg, dif_neg (by omega), dif_neg (by omega)]
  refine (congrFun (shapeCast_self _ _) _).trans ?_
  refine View.ld_unit_apply_of _ _ _ _ _ _ fun a => ?_
  fin_cases a <;> simp

/-- What the load of a half tile of the first stage's table reads. -/
theorem ldF_apply (q : ℕ) (inb) (m j : Fin 256) :
    ldF arg7 harg7 x6 q inb (ix2 m j) = x6 (ix2 m ⟨q + j, by have := inb 1; simp at this; omega⟩) := by
  simp only [ldF, View.readAt_eq_ld, harg7.read_unread]
  pointwise

/-- The same load, widened to bf16. -/
theorem ldG_apply (q : ℕ) (inb) (h) (m j : Fin 256) :
    ldG arg7 harg7 x6 q inb h (ix2 m j) = x6 (ix2 m ⟨q + j, by obtain ⟨_, h⟩ := h; have := h 1; simp at this; omega⟩) := by
  simp only [ldG, View.readAt_eq_ld, harg7.read_unread]
  pointwise

/-- What the load of a half tile of a twiddle table reads. -/
theorem ldT_apply (arg : Memref sig .tc .vmem S64x512 .f32) (harg : arg.IsWhole) (x : Vec Ideal S64x512 .f32) (q : ℕ) (inb) (n : Fin 64) (j : Fin 256) :
    ldT arg harg x q inb (ix2 n j) = x (ix2 n ⟨q + j, by have := inb 1; simp at this; omega⟩) := by
  simp only [ldT, View.readAt_eq_ld, harg.read_unread]
  pointwise

/-- A stored real half of a signal is the first scratch's function there, whatever was loaded for the signal and the table. -/
theorem b_re {φ φ' : FTy} (X : FVec Ideal S256x256 φ) (Fr Fi : FVec Ideal S256x256 φ') (s ch jt o q : ℕ) (hs inbt inbt' inbO) (x : S1x1x1x64x256.Idx)
    (hc : ch < 4) (hj : jt < 2) (hq : q = 256 * jt) (hX : ∀ n m h, X (ix2 ⟨o + (n : Fin 64), h⟩ m) = sg x3 x4 x5 s ⟨ch, hc⟩ n m)
    (hr : ∀ (m j : Fin 256), Fr (ix2 m j) = x6 (ix2 m ⟨256 * jt + j, by omega⟩)) (hi : ∀ (m j : Fin 256), Fi (ix2 m j) = x6 (ix2 m ⟨512 + (256 * jt + j), by omega⟩)) :
    payRe X Fr Fi (ldT arg11 harg11 x10 q inbt) (ldT arg12 harg12 x11 q inbt') o hs x
      = BG (tab x6 x7 x8 x9 x10 x11) (sg x3 x4 x5) ((Rect.unit (s := S5x4x2x128x256) ![s, ch, jt, 0, 0] S1x1x1x64x256.size inbO).emb x) := by
  subst hq
  idx_vars x
  rw [BG_re _ _ _ _ _ _ _ _ _ _ _ hc hj]
  exact payRe_apply _ _ _ _ _ _ _ (tab x6 x7 x8 x9 x10 x11) _ (fun j => ⟨256 * jt + j, by omega⟩) hX hr hi (fun _ _ => ldT_apply ..) (fun _ _ => ldT_apply ..) _

/-- A stored real half of an input signal is the first scratch's function there. -/
theorem bU_re (b ch jt o q q' : ℕ) (x : S1x1x1x64x256.Idx)
    (hb : b < 2 := by decide) (hc : ch < 4 := by decide) (hj : jt < 2 := by decide) (ho : o = 64 * ch := by rfl) (hq : q = 256 * jt := by rfl)
    (hq' : q' = 512 + 256 * jt := by rfl) (inb : ∀ a, (![b, 0, 0, 0] : Fin 4 → ℕ) a + S1x4x64x256.size a ≤ S2x4x64x256.size a := by decide) (hs : S256x256.Slices ![o, 0] S64x256 := by decide)
    (inbt : ∀ a, (![0, q] : Fin 2 → ℕ) a + S64x256.size a ≤ S64x512.size a := by decide) (inbt' : ∀ a, (![0, q] : Fin 2 → ℕ) a + S64x256.size a ≤ S64x512.size a := by decide)
    (inbO : ∀ a, (![b, ch, jt, 0, 0] : Fin 5 → ℕ) a + S1x1x1x64x256.size a ≤ S5x4x2x128x256.size a := by decide)
    (inb' : ∀ a, (![0, q] : Fin 2 → ℕ) a + S256x256.size a ≤ S256x1024.size a := by decide) (inb'' : ∀ a, (![0, q'] : Fin 2 → ℕ) a + S256x256.size a ≤ S256x1024.size a := by decide) :
    payRe (ldU arg4 harg4 x3 b inb) (ldF arg7 harg7 x6 q inb') (ldF arg7 harg7 x6 q' inb'') (ldT arg11 harg11 x10 q inbt) (ldT arg12 harg12 x11 q inbt') o hs x
      = BG (tab x6 x7 x8 x9 x10 x11) (sg x3 x4 x5) ((Rect.unit (s := S5x4x2x128x256) ![b, ch, jt, 0, 0] S1x1x1x64x256.size inbO).emb x) :=
  b_re _ _ _ _ _ _ _ _ _ _ _ _ _ _ _ _ b ch jt o q hs inbt inbt' inbO x hc hj hq (fun _ _ _ => ldU_apply _ _ _ _ _ b o ch inb hb hc ho _ _ _)
    (fun m j => by subst hq; exact ldF_apply ..) (fun m j => by subst hq'; refine (ldF_apply ..).trans (congrArg x6 ?_); rw [ix2_inj]; exact ⟨rfl, Fin.ext (by simp only []; omega)⟩)

/-- A stored real half of a gradient signal is the first scratch's function there. -/
theorem bY_re (b s ch jt o q q' : ℕ) (x : S1x1x1x64x256.Idx)
    (hb : b < 2 := by decide) (hsb : s = b + 2 := by rfl) (hc : ch < 4 := by decide) (hj : jt < 2 := by decide) (ho : o = 64 * ch := by rfl) (hq : q = 256 * jt := by rfl)
    (hq' : q' = 512 + 256 * jt := by rfl) (inb : ∀ a, (![b, 0, 0, 0] : Fin 4 → ℕ) a + S1x4x64x256.size a ≤ S2x4x64x256.size a := by decide) (hs : S256x256.Slices ![o, 0] S64x256 := by decide)
    (inbt : ∀ a, (![0, q] : Fin 2 → ℕ) a + S64x256.size a ≤ S64x512.size a := by decide) (inbt' : ∀ a, (![0, q] : Fin 2 → ℕ) a + S64x256.size a ≤ S64x512.size a := by decide)
    (inbO : ∀ a, (![s, ch, jt, 0, 0] : Fin 5 → ℕ) a + S1x1x1x64x256.size a ≤ S5x4x2x128x256.size a := by decide)
    (inb' : ∀ a, (![0, q] : Fin 2 → ℕ) a + S256x256.size a ≤ S256x1024.size a := by decide) (inb'' : ∀ a, (![0, q'] : Fin 2 → ℕ) a + S256x256.size a ≤ S256x1024.size a := by decide) :
    payRe (ldY arg5 harg5 x4 b inb) (ldF arg7 harg7 x6 q inb') (ldF arg7 harg7 x6 q' inb'') (ldT arg11 harg11 x10 q inbt) (ldT arg12 harg12 x11 q inbt') o hs x
      = BG (tab x6 x7 x8 x9 x10 x11) (sg x3 x4 x5) ((Rect.unit (s := S5x4x2x128x256) ![s, ch, jt, 0, 0] S1x1x1x64x256.size inbO).emb x) :=
  b_re _ _ _ _ _ _ _ _ _ _ _ _ _ _ _ _ s ch jt o q hs inbt inbt' inbO x hc hj hq (fun _ _ _ => by subst hsb; exact ldY_apply _ _ _ _ _ b o ch inb hb hc ho _ _ _)
    (fun m j => by subst hq; exact ldF_apply ..) (fun m j => by subst hq'; refine (ldF_apply ..).trans (congrArg x6 ?_); rw [ix2_inj]; exact ⟨rfl, Fin.ext (by simp only []; omega)⟩)

/-- A stored real half of the filter is the first scratch's function there. -/
theorem bK_re (ch jt o q q' : ℕ) (x : S1x1x1x64x256.Idx)
    (hc : ch < 4 := by decide) (hj : jt < 2 := by decide) (ho : o = 64 * ch := by rfl) (hq : q = 256 * jt := by rfl)
    (hq' : q' = 512 + 256 * jt := by rfl) (inb : ∀ a, (![0, 0, 0] : Fin 3 → ℕ) a + S4x64x256.size a ≤ S4x64x256.size a := by decide) (hs : S256x256.Slices ![o, 0] S64x256 := by decide)
    (inbt : ∀ a, (![0, q] : Fin 2 → ℕ) a + S64x256.size a ≤ S64x512.size a := by decide) (inbt' : ∀ a, (![0, q] : Fin 2 → ℕ) a + S64x256.size a ≤ S64x512.size a := by decide)
    (inbO : ∀ a, (![4, ch, jt, 0, 0] : Fin 5 → ℕ) a + S1x1x1x64x256.size a ≤ S5x4x2x128x256.size a := by decide)
    (inb' : ∀ a, (![0, 0] : Fin 2 → ℕ) a + S256x1024.size a ≤ S256x1024.size a := by decide)
    (hsl : S256x1024.Slices ![0, q] S256x256 := by decide) (hsl' : S256x1024.Slices ![0, q'] S256x256 := by decide) :
    payRe (ldK arg6 harg6 x5 inb) (ldG arg7 harg7 x6 q inb' hsl) (ldG arg7 harg7 x6 q' inb' hsl') (ldT arg11 harg11 x10 q inbt) (ldT arg12 harg12 x11 q inbt') o hs x
      = BG (tab x6 x7 x8 x9 x10 x11) (sg x3 x4 x5) ((Rect.unit (s := S5x4x2x128x256) ![4, ch, jt, 0, 0] S1x1x1x64x256.size inbO).emb x) :=
  b_re _ _ _ _ _ _ _ _ _ _ _ _ _ _ _ _ 4 ch jt o q hs inbt inbt' inbO x hc hj hq (fun _ _ _ => ldK_apply _ _ _ _ _ o ch inb hc ho _ _ _)
    (fun m j => by subst hq; exact ldG_apply ..) (fun m j => by subst hq'; refine (ldG_apply ..).trans (congrArg x6 ?_); rw [ix2_inj]; exact ⟨rfl, Fin.ext (by simp only []; omega)⟩)

/-- A stored imaginary half of a signal is the first scratch's function there, whatever was loaded for the signal and the table. -/
theorem b_im {φ φ' : FTy} (X : FVec Ideal S256x256 φ) (Fr Fi : FVec Ideal S256x256 φ') (s ch jt o q : ℕ) (hs inbt inbt' inbO) (x : S1x1x1x64x256.Idx)
    (hc : ch < 4) (hj : jt < 2) (hq : q = 256 * jt) (hX : ∀ n m h, X (ix2 ⟨o + (n : Fin 64), h⟩ m) = sg x3 x4 x5 s ⟨ch, hc⟩ n m)
    (hr : ∀ (m j : Fin 256), Fr (ix2 m j) = x6 (ix2 m ⟨256 * jt + j, by omega⟩)) (hi : ∀ (m j : Fin 256), Fi (ix2 m j) = x6 (ix2 m ⟨512 + (256 * jt + j), by omega⟩)) :
    payIm X Fr Fi (ldT arg11 harg11 x10 q inbt) (ldT arg12 harg12 x11 q inbt') o hs x
      = BG (tab x6 x7 x8 x9 x10 x11) (sg x3 x4 x5) ((Rect.unit (s := S5x4x2x128x256) ![s, ch, jt, 64, 0] S1x1x1x64x256.size inbO).emb x) := by
  subst hq
  idx_vars x
  rw [BG_im _ _ _ _ _ _ _ _ _ _ _ hc hj]
  exact payIm_apply _ _ _ _ _ _ _ (tab x6 x7 x8 x9 x10 x11) _ (fun j => ⟨256 * jt + j, by omega⟩) hX hr hi (fun _ _ => ldT_apply ..) (fun _ _ => ldT_apply ..) _

/-- A stored imaginary half of an input signal is the first scratch's function there. -/
theorem bU_im (b ch jt o q q' : ℕ) (x : S1x1x1x64x256.Idx)
    (hb : b < 2 := by decide) (hc : ch < 4 := by decide) (hj : jt < 2 := by decide) (ho : o = 64 * ch := by rfl) (hq : q = 256 * jt := by rfl)
    (hq' : q' = 512 + 256 * jt := by rfl) (inb : ∀ a, (![b, 0, 0, 0] : Fin 4 → ℕ) a + S1x4x64x256.size a ≤ S2x4x64x256.size a := by decide) (hs : S256x256.Slices ![o, 0] S64x256 := by decide)
    (inbt : ∀ a, (![0, q] : Fin 2 → ℕ) a + S64x256.size a ≤ S64x512.size a := by decide) (inbt' : ∀ a, (![0, q] : Fin 2 → ℕ) a + S64x256.size a ≤ S64x512.size a := by decide)
    (inbO : ∀ a, (![b, ch, jt, 64, 0] : Fin 5 → ℕ) a + S1x1x1x64x256.size a ≤ S5x4x2x128x256.size a := by decide)
    (inb' : ∀ a, (![0, q] : Fin 2 → ℕ) a + S256x256.size a ≤ S256x1024.size a := by decide) (inb'' : ∀ a, (![0, q'] : Fin 2 → ℕ) a + S256x256.size a ≤ S256x1024.size a := by decide) :
    payIm (ldU arg4 harg4 x3 b inb) (ldF arg7 harg7 x6 q inb') (ldF arg7 harg7 x6 q' inb'') (ldT arg11 harg11 x10 q inbt) (ldT arg12 harg12 x11 q inbt') o hs x
      = BG (tab x6 x7 x8 x9 x10 x11) (sg x3 x4 x5) ((Rect.unit (s := S5x4x2x128x256) ![b, ch, jt, 64, 0] S1x1x1x64x256.size inbO).emb x) :=
  b_im _ _ _ _ _ _ _ _ _ _ _ _ _ _ _ _ b ch jt o q hs inbt inbt' inbO x hc hj hq (fun _ _ _ => ldU_apply _ _ _ _ _ b o ch inb hb hc ho _ _ _)
    (fun m j => by subst hq; exact ldF_apply ..) (fun m j => by subst hq'; refine (ldF_apply ..).trans (congrArg x6 ?_); rw [ix2_inj]; exact ⟨rfl, Fin.ext (by simp only []; omega)⟩)

/-- A stored imaginary half of a gradient signal is the first scratch's function there. -/
theorem bY_im (b s ch jt o q q' : ℕ) (x : S1x1x1x64x256.Idx)
    (hb : b < 2 := by decide) (hsb : s = b + 2 := by rfl) (hc : ch < 4 := by decide) (hj : jt < 2 := by decide) (ho : o = 64 * ch := by rfl) (hq : q = 256 * jt := by rfl)
    (hq' : q' = 512 + 256 * jt := by rfl) (inb : ∀ a, (![b, 0, 0, 0] : Fin 4 → ℕ) a + S1x4x64x256.size a ≤ S2x4x64x256.size a := by decide) (hs : S256x256.Slices ![o, 0] S64x256 := by decide)
    (inbt : ∀ a, (![0, q] : Fin 2 → ℕ) a + S64x256.size a ≤ S64x512.size a := by decide) (inbt' : ∀ a, (![0, q] : Fin 2 → ℕ) a + S64x256.size a ≤ S64x512.size a := by decide)
    (inbO : ∀ a, (![s, ch, jt, 64, 0] : Fin 5 → ℕ) a + S1x1x1x64x256.size a ≤ S5x4x2x128x256.size a := by decide)
    (inb' : ∀ a, (![0, q] : Fin 2 → ℕ) a + S256x256.size a ≤ S256x1024.size a := by decide) (inb'' : ∀ a, (![0, q'] : Fin 2 → ℕ) a + S256x256.size a ≤ S256x1024.size a := by decide) :
    payIm (ldY arg5 harg5 x4 b inb) (ldF arg7 harg7 x6 q inb') (ldF arg7 harg7 x6 q' inb'') (ldT arg11 harg11 x10 q inbt) (ldT arg12 harg12 x11 q inbt') o hs x
      = BG (tab x6 x7 x8 x9 x10 x11) (sg x3 x4 x5) ((Rect.unit (s := S5x4x2x128x256) ![s, ch, jt, 64, 0] S1x1x1x64x256.size inbO).emb x) :=
  b_im _ _ _ _ _ _ _ _ _ _ _ _ _ _ _ _ s ch jt o q hs inbt inbt' inbO x hc hj hq (fun _ _ _ => by subst hsb; exact ldY_apply _ _ _ _ _ b o ch inb hb hc ho _ _ _)
    (fun m j => by subst hq; exact ldF_apply ..) (fun m j => by subst hq'; refine (ldF_apply ..).trans (congrArg x6 ?_); rw [ix2_inj]; exact ⟨rfl, Fin.ext (by simp only []; omega)⟩)

/-- A stored imaginary half of the filter is the first scratch's function there. -/
theorem bK_im (ch jt o q q' : ℕ) (x : S1x1x1x64x256.Idx)
    (hc : ch < 4 := by decide) (hj : jt < 2 := by decide) (ho : o = 64 * ch := by rfl) (hq : q = 256 * jt := by rfl)
    (hq' : q' = 512 + 256 * jt := by rfl) (inb : ∀ a, (![0, 0, 0] : Fin 3 → ℕ) a + S4x64x256.size a ≤ S4x64x256.size a := by decide) (hs : S256x256.Slices ![o, 0] S64x256 := by decide)
    (inbt : ∀ a, (![0, q] : Fin 2 → ℕ) a + S64x256.size a ≤ S64x512.size a := by decide) (inbt' : ∀ a, (![0, q] : Fin 2 → ℕ) a + S64x256.size a ≤ S64x512.size a := by decide)
    (inbO : ∀ a, (![4, ch, jt, 64, 0] : Fin 5 → ℕ) a + S1x1x1x64x256.size a ≤ S5x4x2x128x256.size a := by decide)
    (inb' : ∀ a, (![0, 0] : Fin 2 → ℕ) a + S256x1024.size a ≤ S256x1024.size a := by decide)
    (hsl : S256x1024.Slices ![0, q] S256x256 := by decide) (hsl' : S256x1024.Slices ![0, q'] S256x256 := by decide) :
    payIm (ldK arg6 harg6 x5 inb) (ldG arg7 harg7 x6 q inb' hsl) (ldG arg7 harg7 x6 q' inb' hsl') (ldT arg11 harg11 x10 q inbt) (ldT arg12 harg12 x11 q inbt') o hs x
      = BG (tab x6 x7 x8 x9 x10 x11) (sg x3 x4 x5) ((Rect.unit (s := S5x4x2x128x256) ![4, ch, jt, 64, 0] S1x1x1x64x256.size inbO).emb x) :=
  b_im _ _ _ _ _ _ _ _ _ _ _ _ _ _ _ _ 4 ch jt o q hs inbt inbt' inbO x hc hj hq (fun _ _ _ => ldK_apply _ _ _ _ _ o ch inb hc ho _ _ _)
    (fun m j => by subst hq; exact ldG_apply ..) (fun m j => by subst hq'; refine (ldG_apply ..).trans (congrArg x6 ?_); rw [ix2_inj]; exact ⟨rfl, Fin.ext (by simp only []; omega)⟩)

end

end Cert.KernelIdeal.Val

end
-- ==== Proof.KBs.lean ====
module

public import proofs.«01_k».proof.Proof.KB

@[expose] public section

set_option maxRecDepth 16384

noncomputable section

namespace Cert.KernelIdeal.Val

open Cert.KernelIdeal Cert.KernelIdeal.Gen Idealize.ShloMosaic Idealize.ShloMosaic.TcCoe Idealize.SL.Sem Cert.Dft

section
variable (c : Dev nD) (arg4 : Memref sig .tc .vmem S2x4x64x256 .fp8e4m3) (harg4 : arg4.IsWhole) (arg5 : Memref sig .tc .vmem S2x4x64x256 .fp8e5m2) (harg5 : arg5.IsWhole)
  (arg6 : Memref sig .tc .vmem S4x64x256 .bf16) (harg6 : arg6.IsWhole) (arg7 : Memref sig .tc .vmem S256x1024 .fp8e4m3) (harg7 : arg7.IsWhole)
  (arg11 : Memref sig .tc .vmem S64x512 .f32) (harg11 : arg11.IsWhole) (arg12 : Memref sig .tc .vmem S64x512 .f32) (harg12 : arg12.IsWhole)
  (x3 : Vec Ideal S2x4x64x256 .fp8e4m3) (x4 : Vec Ideal S2x4x64x256 .fp8e5m2) (x5 : Vec Ideal S4x64x256 .bf16)
  (x6 : Vec Ideal S256x1024 .fp8e4m3) (x7 : Vec Ideal S1024x256 .fp8e4m3) (x8 x9 : Vec Ideal S64x64 .fp8e4m3)
  (x10 x11 : Vec Ideal S64x512 .f32)

/-- Every store into the first scratch leaves a block of its function. -/
theorem pieces0 : View.PiecesOf (BG (tab x6 x7 x8 x9 x10 x11) (sg x3 x4 x5))
    (kernelRun0_A.sl.HS0_80 c arg4 harg4 arg5 harg5 arg6 harg6 arg7 harg7 arg11 harg11 arg12 harg12 x3 x4 x5 x6 x10 x11) := by
  unfold kernelRun0_A.sl.HS0_80
  iterate 8 refine And.intro (fun x => bK_im arg6 harg6 arg7 harg7 arg11 harg11 arg12 harg12 x3 x4 x5 x6 x7 x8 x9 x10 x11 _ _ _ _ _ x) (And.intro (fun x => bK_re arg6 harg6 arg7 harg7 arg11 harg11 arg12 harg12 x3 x4 x5 x6 x7 x8 x9 x10 x11 _ _ _ _ _ x) ?_)
  iterate 16 refine And.intro (fun x => bY_im arg5 harg5 arg7 harg7 arg11 harg11 arg12 harg12 x3 x4 x5 x6 x7 x8 x9 x10 x11 _ _ _ _ _ _ _ x) (And.intro (fun x => bY_re arg5 harg5 arg7 harg7 arg11 harg11 arg12 harg12 x3 x4 x5 x6 x7 x8 x9 x10 x11 _ _ _ _ _ _ _ x) ?_)
  iterate 16 refine And.intro (fun x => bU_im arg4 harg4 arg7 harg7 arg11 harg11 arg12 harg12 x3 x4 x5 x6 x7 x8 x9 x10 x11 _ _ _ _ _ _ x) (And.intro (fun x => bU_re arg4 harg4 arg7 harg7 arg11 harg11 arg12 harg12 x3 x4 x5 x6 x7 x8 x9 x10 x11 _ _ _ _ _ _ x) ?_)
  exact trivial
end

end Cert.KernelIdeal.Val

end
-- ==== Proof.KZ.lean ====
module

public import proofs.«01_k».proof.Proof.KBs

@[expose] public section

set_option maxRecDepth 16384

noncomputable section

namespace Cert.KernelIdeal.Val

open Cert.KernelIdeal Cert.KernelIdeal.Gen Idealize.ShloMosaic Idealize.ShloMosaic.TcCoe Idealize.SL.Sem Cert.Dft

/-- A half of a second-stage product: the stacked table times the loaded column pair. -/
def half (t : FVec Ideal S128x128 .bf16) (v : FVec Ideal S1x1x1x128x256 .bf16) (o : ℕ) (h : S128x256.Slices ![o, 0] S64x256) : FVec Ideal S64x256 .f32 :=
  extractStridedSlice S64x256 ![o, 0] (matmul dot_S128x128_S128x256_S128x256_1_0_0_1_n_n none t
    (shapeCast S128x256 v shapeCasts_S1x1x1x128x256_S128x256) (constant S128x256 .f32 0x00000000#32)) h

/-- A half of a second-stage product, read at an index: the two halves of the contraction. -/
theorem half_apply (t : FVec Ideal S128x128 .bf16) (v : FVec Ideal S1x1x1x128x256 .bf16) (o : ℕ) (h) (ho : o + 64 ≤ 128) (k : Fin 64) (j : Fin 256) (P Q : Fin 64 → EReal)
    (a b : Fin 64 → EReal) (hP : ∀ n : Fin 64, t (ix2 ⟨o + k, by omega⟩ ⟨n, by omega⟩) = P n) (hQ : ∀ n : Fin 64, t (ix2 ⟨o + k, by omega⟩ ⟨64 + n, by omega⟩) = Q n)
    (ha : ∀ n : Fin 64, v (ix5 0 0 0 ⟨n, by omega⟩ j) = a n) (hb : ∀ n : Fin 64, v (ix5 0 0 0 ⟨64 + n, by omega⟩ j) = b n) :
    half t v o h (ix2 k j) = ∑ n, P n * a n + ∑ n, Q n * b n := by
  have e : half t v o h (ix2 k j) = ∑ n : Fin (64 + 64), t (ix2 ⟨o + k, by omega⟩ n) * v (ix5 0 0 0 n j) := by
    pointwise [half]
  rw [e, Fin.sum_univ_add]
  refine congrArg₂ (· + ·) (Finset.sum_congr rfl fun n _ => ?_) (Finset.sum_congr rfl fun n _ => ?_)
  · exact congrArg₂ (· * ·) (hP n) (ha n)
  · exact congrArg₂ (· * ·) (hQ n) (hb n)

section
variable (arg9 : Memref sig .tc .vmem S64x64 .fp8e4m3) (harg9 : arg9.IsWhole) (arg10 : Memref sig .tc .vmem S64x64 .fp8e4m3) (harg10 : arg10.IsWhole)
  (x6 : Vec Ideal S256x1024 .fp8e4m3) (x7 : Vec Ideal S1024x256 .fp8e4m3) (x8 x9 : Vec Ideal S64x64 .fp8e4m3)
  (x10 x11 : Vec Ideal S64x512 .f32)

/-- The stacked table of the second stage. -/
def t2 (inb inb' : ∀ a, (![0, 0] : Fin 2 → ℕ) a + S64x64.size a ≤ S64x64.size a) : FVec Ideal S128x128 .bf16 :=
  k0_pay227 (View.readAt (Elt Ideal) arg9.view (Rect.unit (s := S64x64) ![0, 0] S64x64.size inb).toLoadRect (harg9.unread x8))
    (View.readAt (Elt Ideal) arg10.view (Rect.unit (s := S64x64) ![0, 0] S64x64.size inb').toLoadRect (harg10.unread x9))

/-- The stacked table of the inverse second stage. -/
def t3 (inb inb' : ∀ a, (![0, 0] : Fin 2 → ℕ) a + S64x64.size a ≤ S64x64.size a) : FVec Ideal S128x128 .bf16 :=
  k0_pay449 (k0_pay225 (View.readAt (Elt Ideal) arg9.view (Rect.unit (s := S64x64) ![0, 0] S64x64.size inb).toLoadRect (harg9.unread x8)))
    (k0_pay226 (View.readAt (Elt Ideal) arg10.view (Rect.unit (s := S64x64) ![0, 0] S64x64.size inb').toLoadRect (harg10.unread x9)))

/-- The stacked table's entries. -/
theorem t2_apply (inb inb') (k n : Fin 64) (h h' h'' h''') :
    t2 arg9 harg9 arg10 harg10 x8 x9 inb inb' (ix2 ⟨0 + k, h⟩ ⟨n, h'⟩) = x8 (ix2 k n)
    ∧ t2 arg9 harg9 arg10 harg10 x8 x9 inb inb' (ix2 ⟨0 + k, h⟩ ⟨64 + n, h''⟩) = -x9 (ix2 k n)
    ∧ t2 arg9 harg9 arg10 harg10 x8 x9 inb inb' (ix2 ⟨64 + k, h'''⟩ ⟨n, h'⟩) = x9 (ix2 k n)
    ∧ t2 arg9 harg9 arg10 harg10 x8 x9 inb inb' (ix2 ⟨64 + k, h'''⟩ ⟨64 + n, h''⟩) = x8 (ix2 k n) := by
  simp only [t2, View.readAt_eq_ld, harg9.read_unread, harg10.read_unread]
  refine ⟨?_, ?_, ?_, ?_⟩ <;> pointwise [k0_pay227, k0_pay225, k0_pay226]
  exact zero_sub _

/-- The stacked table's entries. -/
theorem t3_apply (inb inb') (k n : Fin 64) (h h' h'' h''') :
    t3 arg9 harg9 arg10 harg10 x8 x9 inb inb' (ix2 ⟨0 + k, h⟩ ⟨n, h'⟩) = x8 (ix2 k n)
    ∧ t3 arg9 harg9 arg10 harg10 x8 x9 inb inb' (ix2 ⟨0 + k, h⟩ ⟨64 + n, h''⟩) = x9 (ix2 k n)
    ∧ t3 arg9 harg9 arg10 harg10 x8 x9 inb inb' (ix2 ⟨64 + k, h'''⟩ ⟨n, h'⟩) = -x9 (ix2 k n)
    ∧ t3 arg9 harg9 arg10 harg10 x8 x9 inb inb' (ix2 ⟨64 + k, h'''⟩ ⟨64 + n, h''⟩) = x8 (ix2 k n) := by
  simp only [t3, View.readAt_eq_ld, harg9.read_unread, harg10.read_unread]
  refine ⟨?_, ?_, ?_, ?_⟩ <;> pointwise [k0_pay449, k0_pay225, k0_pay226]
  exact zero_sub _
end

/-- Reading a covered list of pieces of one function reads the function. -/
theorem readCov_of {S : Shape} {ε : EltTy} (arg : Memref sig .tc .vmem S ε) (L : List (View.Piece (Elt Ideal) S ε)) (G : S.Idx → Elt Ideal ε) (hL : View.PiecesOf G L)
    (hcov : ∀ y, ∃ p ∈ L, y ∈ p.1.set) (r : LoadRect S) (j : r.shape.Idx) : arg.view.readCov L r j = G (r.idx j) := by
  rw [View.readCov_eq_canon']
  exact View.canon_apply_of_pieces G L hL.mem _ (hcov _)

/-- The product spectrum `o` of channel `ch`, real part: the filter against each batch's gradient, then the batch sum of
    the inputs against the gradients, weighted by `w`. -/
def zfRe (T : Tab) (g : ℕ → Fin 4 → Fin 64 → Fin 256 → EReal) (w : ℕ → Fin 4 → EReal) (o : ℕ) (ch : Fin 4) (J : Fin 512) (k : Fin 64) : EReal :=
  if o < 2 then zRe T (g 4 ch) (g (o + 2) ch) J k
  else zRe T (g 0 ch) (g 2 ch) J k * w 0 ch + zRe T (g 1 ch) (g 3 ch) J k * w 1 ch

/-- The product spectrum `o` of channel `ch`, imaginary part. -/
def zfIm (T : Tab) (g : ℕ → Fin 4 → Fin 64 → Fin 256 → EReal) (w : ℕ → Fin 4 → EReal) (o : ℕ) (ch : Fin 4) (J : Fin 512) (k : Fin 64) : EReal :=
  if o < 2 then zIm T (g 4 ch) (g (o + 2) ch) J k
  else zIm T (g 0 ch) (g 2 ch) J k * w 0 ch + zIm T (g 1 ch) (g 3 ch) J k * w 1 ch

/-- What a point leaves in the second scratch. -/
def ZG (T : Tab) (g : ℕ → Fin 4 → Fin 64 → Fin 256 → EReal) (w : ℕ → Fin 4 → EReal) : S3x4x2x128x256.Idx → Elt Ideal .bf16 := fun y =>
  if h : (y 3 : ℕ) < 64 then zfRe T g w (y 0) (y 1) ⟨256 * (y 2) + (y 4), by have := (y 2).2; have := (y 4).2; simp at *; omega⟩ ⟨y 3, h⟩
  else zfIm T g w (y 0) (y 1) ⟨256 * (y 2) + (y 4), by have := (y 2).2; have := (y 4).2; simp at *; omega⟩ ⟨y 3 - 64, by have := (y 3).2; simp at *; omega⟩

section
variable (T : Tab) (g : ℕ → Fin 4 → Fin 64 → Fin 256 → EReal) (w : ℕ → Fin 4 → EReal) (o ch jt : ℕ) (x0 x1 x2 : Fin 1) (x3 : Fin 64) (x4 : Fin 256)

/-- The second scratch's function at an index of a real half. -/
theorem ZG_re (inb) (hc : ch < 4) (hj : jt < 2) :
    ZG T g w ((Rect.unit (s := S3x4x2x128x256) ![o, ch, jt, 0, 0] S1x1x1x64x256.size inb).emb (ix5 x0 x1 x2 x3 x4))
    = zfRe T g w o ⟨ch, hc⟩ ⟨256 * jt + x4, by omega⟩ x3 := by
  have e : (Rect.unit (s := S3x4x2x128x256) ![o, ch, jt, 0, 0] ![1, 1, 1, 64, 256] inb).emb (ix5 x0 x1 x2 x3 x4) 1 = (⟨ch, hc⟩ : Fin 4) := Fin.ext (by blk_simp)
  blk_simp [ZG]
  rw [dif_pos x3.2, e]

/-- The second scratch's function at an index of an imaginary half. -/
theorem ZG_im (inb) (hc : ch < 4) (hj : jt < 2) :
    ZG T g w ((Rect.unit (s := S3x4x2x128x256) ![o, ch, jt, 64, 0] S1x1x1x64x256.size inb).emb (ix5 x0 x1 x2 x3 x4))
    = zfIm T g w o ⟨ch, hc⟩ ⟨256 * jt + x4, by omega⟩ x3 := by
  have e : (Rect.unit (s := S3x4x2x128x256) ![o, ch, jt, 64, 0] ![1, 1, 1, 64, 256] inb).emb (ix5 x0 x1 x2 x3 x4) 1 = (⟨ch, hc⟩ : Fin 4) := Fin.ext (by blk_simp)
  blk_simp [ZG]
  rw [dif_neg (by omega), e]
  congr 1
  exact Fin.ext (by simp)

/-- The first scratch's function at an index of a loaded column pair, real half. -/
theorem BG_ld_re (inb) (hc : ch < 4) (hj : jt < 2) (h : (x3 : ℕ) < 128) :
    BG T g ((Rect.unit (s := S5x4x2x128x256) ![o, ch, jt, 0, 0] S1x1x1x128x256.size inb).toLoadRect.idx (ix5 x0 x1 x2 (⟨x3, h⟩ : Fin 128) x4))
    = bRe T (g o ⟨ch, hc⟩) ⟨256 * jt + x4, by omega⟩ x3 := by
  change BG T g ((Rect.unit (s := S5x4x2x128x256) ![o, ch, jt, 0, 0] S1x1x1x128x256.size inb).emb (ix5 x0 x1 x2 (⟨x3, h⟩ : Fin 128) x4)) = _
  have e : (Rect.unit (s := S5x4x2x128x256) ![o, ch, jt, 0, 0] ![1, 1, 1, 128, 256] inb).emb (ix5 x0 x1 x2 (⟨x3, h⟩ : Fin 128) x4) 1 = (⟨ch, hc⟩ : Fin 4) := Fin.ext (by blk_simp)
  blk_simp [BG]
  rw [dif_pos x3.2, e]

/-- The first scratch's function at an index of a loaded column pair, imaginary half. -/
theorem BG_ld_im (inb) (hc : ch < 4) (hj : jt < 2) (h : 64 + (x3 : ℕ) < 128) :
    BG T g ((Rect.unit (s := S5x4x2x128x256) ![o, ch, jt, 0, 0] S1x1x1x128x256.size inb).toLoadRect.idx (ix5 x0 x1 x2 (⟨64 + x3, h⟩ : Fin 128) x4))
    = bIm T (g o ⟨ch, hc⟩) ⟨256 * jt + x4, by omega⟩ x3 := by
  change BG T g ((Rect.unit (s := S5x4x2x128x256) ![o, ch, jt, 0, 0] S1x1x1x128x256.size inb).emb (ix5 x0 x1 x2 (⟨64 + x3, h⟩ : Fin 128) x4)) = _
  have e : (Rect.unit (s := S5x4x2x128x256) ![o, ch, jt, 0, 0] ![1, 1, 1, 128, 256] inb).emb (ix5 x0 x1 x2 (⟨64 + x3, h⟩ : Fin 128) x4) 1 = (⟨ch, hc⟩ : Fin 4) := Fin.ext (by blk_simp)
  blk_simp [BG]
  rw [dif_neg (Nat.not_lt.mpr (Nat.le_add_right 64 x3)), e]
  congr 1
  exact Fin.ext (by simp)

/-- The second scratch's function at an index of a loaded column pair, real half. -/
theorem ZG_ld_re (inb) (hc : ch < 4) (hj : jt < 2) (h : (x3 : ℕ) < 128) :
    ZG T g w ((Rect.unit (s := S3x4x2x128x256) ![o, ch, jt, 0, 0] S1x1x1x128x256.size inb).toLoadRect.idx (ix5 x0 x1 x2 (⟨x3, h⟩ : Fin 128) x4))
    = zfRe T g w o ⟨ch, hc⟩ ⟨256 * jt + x4, by omega⟩ x3 := by
  change ZG T g w ((Rect.unit (s := S3x4x2x128x256) ![o, ch, jt, 0, 0] S1x1x1x128x256.size inb).emb (ix5 x0 x1 x2 (⟨x3, h⟩ : Fin 128) x4)) = _
  have e : (Rect.unit (s := S3x4x2x128x256) ![o, ch, jt, 0, 0] ![1, 1, 1, 128, 256] inb).emb (ix5 x0 x1 x2 (⟨x3, h⟩ : Fin 128) x4) 1 = (⟨ch, hc⟩ : Fin 4) := Fin.ext (by blk_simp)
  blk_simp [ZG]
  rw [dif_pos x3.2, e]

/-- The second scratch's function at an index of a loaded column pair, imaginary half. -/
theorem ZG_ld_im (inb) (hc : ch < 4) (hj : jt < 2) (h : 64 + (x3 : ℕ) < 128) :
    ZG T g w ((Rect.unit (s := S3x4x2x128x256) ![o, ch, jt, 0, 0] S1x1x1x128x256.size inb).toLoadRect.idx (ix5 x0 x1 x2 (⟨64 + x3, h⟩ : Fin 128) x4))
    = zfIm T g w o ⟨ch, hc⟩ ⟨256 * jt + x4, by omega⟩ x3 := by
  change ZG T g w ((Rect.unit (s := S3x4x2x128x256) ![o, ch, jt, 0, 0] S1x1x1x128x256.size inb).emb (ix5 x0 x1 x2 (⟨64 + x3, h⟩ : Fin 128) x4)) = _
  have e : (Rect.unit (s := S3x4x2x128x256) ![o, ch, jt, 0, 0] ![1, 1, 1, 128, 256] inb).emb (ix5 x0 x1 x2 (⟨64 + x3, h⟩ : Fin 128) x4) 1 = (⟨ch, hc⟩ : Fin 4) := Fin.ext (by blk_simp)
  blk_simp [ZG]
  rw [dif_neg (Nat.not_lt.mpr (Nat.le_add_right 64 x3)), e]
  congr 1
  exact Fin.ext (by simp)
end

/-- A stored product spectrum, real half. -/
def zPayRe (t : FVec Ideal S128x128 .bf16) (x y : FVec Ideal S1x1x1x128x256 .bf16) (h : S128x256.Slices ![0, 0] S64x256) (h' : S128x256.Slices ![64, 0] S64x256) : FVec Ideal S64x256 .f32 :=
  addf (mulf (half t x 0 h) (half t y 0 h)) (mulf (half t x 64 h') (half t y 64 h'))

/-- A stored product spectrum, imaginary half. -/
def zPayIm (t : FVec Ideal S128x128 .bf16) (x y : FVec Ideal S1x1x1x128x256 .bf16) (h : S128x256.Slices ![0, 0] S64x256) (h' : S128x256.Slices ![64, 0] S64x256) : FVec Ideal S64x256 .f32 :=
  subf (mulf (half t x 0 h) (half t y 64 h')) (mulf (half t x 64 h') (half t y 0 h))

/-- A stored half of the second scratch: a product spectrum cast. -/
def zSt (p : FVec Ideal S64x256 .f32) : FVec Ideal S1x1x1x64x256 .bf16 :=
  shapeCast S1x1x1x64x256 (truncf .bf16 p bitsLt_bf16_f32) shapeCasts_S64x256_S1x1x1x64x256

/-- A stored half of the second scratch: two product spectra weighted and added. -/
def gSt (p q : FVec Ideal S64x256 .f32) (s s' r r' : EReal) : FVec Ideal S1x1x1x64x256 .bf16 :=
  shapeCast S1x1x1x64x256 (addf
    (truncf .bf16 (mulf p (broadcast S64x256 (Scalar.mulf (F := Ideal) (φ := .f32) s s'))) bitsLt_bf16_f32 : FVec Ideal S64x256 .bf16)
    (truncf .bf16 (mulf q (broadcast S64x256 (Scalar.mulf (F := Ideal) (φ := .f32) r r'))) bitsLt_bf16_f32)) shapeCasts_S64x256_S1x1x1x64x256

section
variable (arg16 : Memref sig .tc .vmem S5x4x2x128x256 .bf16) (L : List (View.Piece (Elt Ideal) S5x4x2x128x256 .bf16))
  (arg9 : Memref sig .tc .vmem S64x64 .fp8e4m3) (harg9 : arg9.IsWhole) (arg10 : Memref sig .tc .vmem S64x64 .fp8e4m3) (harg10 : arg10.IsWhole)
  (x6 : Vec Ideal S256x1024 .fp8e4m3) (x7 : Vec Ideal S1024x256 .fp8e4m3) (x8 x9 : Vec Ideal S64x64 .fp8e4m3)
  (x10 x11 : Vec Ideal S64x512 .f32) (g : ℕ → Fin 4 → Fin 64 → Fin 256 → EReal) (w : ℕ → Fin 4 → EReal)
  (hL : View.PiecesOf (BG (tab x6 x7 x8 x9 x10 x11) g) L) (hcov : ∀ y, ∃ p ∈ L, y ∈ p.1.set)

/-- A column pair loaded from the first scratch. -/
def ldB (s ch jt : ℕ) (inb : ∀ a, (![s, ch, jt, 0, 0] : Fin 5 → ℕ) a + S1x1x1x128x256.size a ≤ S5x4x2x128x256.size a) : FVec Ideal S1x1x1x128x256 .bf16 :=
  arg16.view.readCov L (Rect.unit (s := S5x4x2x128x256) ![s, ch, jt, 0, 0] S1x1x1x128x256.size inb).toLoadRect

include hL hcov

/-- The upper half of the second stage's product: the spectrum's real part. -/
theorem half_re (s ch jt : ℕ) (inb inb' inb'' h) (hc : ch < 4) (hj : jt < 2) (k : Fin 64) (j : Fin 256) :
    half (t2 arg9 harg9 arg10 harg10 x8 x9 inb' inb'') (ldB arg16 L s ch jt inb) 0 h (ix2 k j) = spRe (tab x6 x7 x8 x9 x10 x11) (g s ⟨ch, hc⟩) ⟨256 * jt + j, by omega⟩ k :=
  half_apply _ _ _ _ (by omega) _ _ _ _ _ _ (fun n => (t2_apply _ _ _ _ _ _ _ _ k n (by omega) _ (by omega) (by omega)).1) (fun n => (t2_apply _ _ _ _ _ _ _ _ k n _ (by omega) _ (by omega)).2.1)
    (fun n => (readCov_of _ _ _ hL hcov _ _).trans (BG_ld_re _ _ _ _ _ _ _ _ _ _ _ hc hj _)) (fun n => (readCov_of _ _ _ hL hcov _ _).trans (BG_ld_im _ _ _ _ _ _ _ _ _ _ _ hc hj _))

/-- The lower half of the second stage's product: the spectrum's imaginary part. -/
theorem half_im (s ch jt : ℕ) (inb inb' inb'' h) (hc : ch < 4) (hj : jt < 2) (k : Fin 64) (j : Fin 256) :
    half (t2 arg9 harg9 arg10 harg10 x8 x9 inb' inb'') (ldB arg16 L s ch jt inb) 64 h (ix2 k j) = spIm (tab x6 x7 x8 x9 x10 x11) (g s ⟨ch, hc⟩) ⟨256 * jt + j, by omega⟩ k :=
  half_apply _ _ _ _ (by omega) _ _ _ _ _ _ (fun n => (t2_apply _ _ _ _ _ _ _ _ k n (by omega) _ (by omega) (by omega)).2.2.1) (fun n => (t2_apply _ _ _ _ _ _ _ _ k n (by omega) (by omega) _ _).2.2.2)
    (fun n => (readCov_of _ _ _ hL hcov _ _).trans (BG_ld_re _ _ _ _ _ _ _ _ _ _ _ hc hj _)) (fun n => (readCov_of _ _ _ hL hcov _ _).trans (BG_ld_im _ _ _ _ _ _ _ _ _ _ _ hc hj _))

/-- A product spectrum of two loaded signals, real part. -/
theorem zPayRe_apply (s s' ch jt : ℕ) (inb inb' i i' h h') (hc : ch < 4) (hj : jt < 2) (k : Fin 64) (j : Fin 256) :
    zPayRe (t2 arg9 harg9 arg10 harg10 x8 x9 i i') (ldB arg16 L s ch jt inb) (ldB arg16 L s' ch jt inb') h h' (ix2 k j)
      = zRe (tab x6 x7 x8 x9 x10 x11) (g s ⟨ch, hc⟩) (g s' ⟨ch, hc⟩) ⟨256 * jt + j, by omega⟩ k :=
  congrArg₂ (· + ·) (congrArg₂ (· * ·) (half_re arg16 L arg9 harg9 arg10 harg10 x6 x7 x8 x9 x10 x11 g hL hcov _ _ _ _ _ _ _ hc hj k j) (half_re arg16 L arg9 harg9 arg10 harg10 x6 x7 x8 x9 x10 x11 g hL hcov _ _ _ _ _ _ _ hc hj k j))
    (congrArg₂ (· * ·) (half_im arg16 L arg9 harg9 arg10 harg10 x6 x7 x8 x9 x10 x11 g hL hcov _ _ _ _ _ _ _ hc hj k j) (half_im arg16 L arg9 harg9 arg10 harg10 x6 x7 x8 x9 x10 x11 g hL hcov _ _ _ _ _ _ _ hc hj k j))

/-- A product spectrum of two loaded signals, imaginary part. -/
theorem zPayIm_apply (s s' ch jt : ℕ) (inb inb' i i' h h') (hc : ch < 4) (hj : jt < 2) (k : Fin 64) (j : Fin 256) :
    zPayIm (t2 arg9 harg9 arg10 harg10 x8 x9 i i') (ldB arg16 L s ch jt inb) (ldB arg16 L s' ch jt inb') h h' (ix2 k j)
      = zIm (tab x6 x7 x8 x9 x10 x11) (g s ⟨ch, hc⟩) (g s' ⟨ch, hc⟩) ⟨256 * jt + j, by omega⟩ k :=
  congrArg₂ (· - ·) (congrArg₂ (· * ·) (half_re arg16 L arg9 harg9 arg10 harg10 x6 x7 x8 x9 x10 x11 g hL hcov _ _ _ _ _ _ _ hc hj k j) (half_im arg16 L arg9 harg9 arg10 harg10 x6 x7 x8 x9 x10 x11 g hL hcov _ _ _ _ _ _ _ hc hj k j))
    (congrArg₂ (· * ·) (half_im arg16 L arg9 harg9 arg10 harg10 x6 x7 x8 x9 x10 x11 g hL hcov _ _ _ _ _ _ _ hc hj k j) (half_re arg16 L arg9 harg9 arg10 harg10 x6 x7 x8 x9 x10 x11 g hL hcov _ _ _ _ _ _ _ hc hj k j))

/-- A stored filter spectrum, real half, is the second scratch's function there. -/
theorem z_re (o s' ch jt : ℕ) (x : S1x1x1x64x256.Idx) (ho : o < 2 := by decide) (hs : s' = o + 2 := by rfl) (hc : ch < 4 := by decide) (hj : jt < 2 := by decide)
    (inb : ∀ a, (![4, ch, jt, 0, 0] : Fin 5 → ℕ) a + S1x1x1x128x256.size a ≤ S5x4x2x128x256.size a := by decide) (inb' : ∀ a, (![s', ch, jt, 0, 0] : Fin 5 → ℕ) a + S1x1x1x128x256.size a ≤ S5x4x2x128x256.size a := by decide)
    (i i' : ∀ a, (![0, 0] : Fin 2 → ℕ) a + S64x64.size a ≤ S64x64.size a := by decide) (h : S128x256.Slices ![0, 0] S64x256 := by decide) (h' : S128x256.Slices ![64, 0] S64x256 := by decide)
    (inbO : ∀ a, (![o, ch, jt, 0, 0] : Fin 5 → ℕ) a + S1x1x1x64x256.size a ≤ S3x4x2x128x256.size a := by decide) :
    zSt (zPayRe (t2 arg9 harg9 arg10 harg10 x8 x9 i i') (ldB arg16 L 4 ch jt inb) (ldB arg16 L s' ch jt inb') h h') x
      = ZG (tab x6 x7 x8 x9 x10 x11) g w ((Rect.unit (s := S3x4x2x128x256) ![o, ch, jt, 0, 0] S1x1x1x64x256.size inbO).emb x) := by
  subst hs
  idx_vars x
  rw [ZG_re _ _ _ _ _ _ _ _ _ _ _ _ hc hj, zfRe, if_pos ho, ← zPayRe_apply arg16 L arg9 harg9 arg10 harg10 x6 x7 x8 x9 x10 x11 g hL hcov 4 (o + 2) ch jt inb inb' i i' h h' hc hj]
  pointwise [zSt]

/-- A stored filter spectrum, imaginary half, is the second scratch's function there. -/
theorem z_im (o s' ch jt : ℕ) (x : S1x1x1x64x256.Idx) (ho : o < 2 := by decide) (hs : s' = o + 2 := by rfl) (hc : ch < 4 := by decide) (hj : jt < 2 := by decide)
    (inb : ∀ a, (![4, ch, jt, 0, 0] : Fin 5 → ℕ) a + S1x1x1x128x256.size a ≤ S5x4x2x128x256.size a := by decide) (inb' : ∀ a, (![s', ch, jt, 0, 0] : Fin 5 → ℕ) a + S1x1x1x128x256.size a ≤ S5x4x2x128x256.size a := by decide)
    (i i' : ∀ a, (![0, 0] : Fin 2 → ℕ) a + S64x64.size a ≤ S64x64.size a := by decide) (h : S128x256.Slices ![0, 0] S64x256 := by decide) (h' : S128x256.Slices ![64, 0] S64x256 := by decide)
    (inbO : ∀ a, (![o, ch, jt, 64, 0] : Fin 5 → ℕ) a + S1x1x1x64x256.size a ≤ S3x4x2x128x256.size a := by decide) :
    zSt (zPayIm (t2 arg9 harg9 arg10 harg10 x8 x9 i i') (ldB arg16 L 4 ch jt inb) (ldB arg16 L s' ch jt inb') h h') x
      = ZG (tab x6 x7 x8 x9 x10 x11) g w ((Rect.unit (s := S3x4x2x128x256) ![o, ch, jt, 64, 0] S1x1x1x64x256.size inbO).emb x) := by
  subst hs
  idx_vars x
  rw [ZG_im _ _ _ _ _ _ _ _ _ _ _ _ hc hj, zfIm, if_pos ho, ← zPayIm_apply arg16 L arg9 harg9 arg10 harg10 x6 x7 x8 x9 x10 x11 g hL hcov 4 (o + 2) ch jt inb inb' i i' h h' hc hj]
  pointwise [zSt]

end

section
variable (i : grid0.Coords) (arg1 : Memref sig .tc .smem S2x864 .f32) (harg1 : arg1.IsWhole) (arg2 : Memref sig .tc .smem S2x864 .f32) (harg2 : arg2.IsWhole)
  (x0 x1 : Vec Ideal S2x864 .f32)

/-- The first batch's scale of a channel, loaded. -/
def ldS1 (arg : Memref sig .tc .smem S2x864 .f32) (harg : arg.IsWhole) (x : Vec Ideal S2x864 .f32) (ch : ℕ)
    (inb : ∀ a, k0_off1 i (BitVec.ofNat 32 ch) a + S1x1.size a ≤ S2x864.size a) (h : 0 < S1x1.numel) : EReal :=
  View.readAt (Elt Ideal) arg.view (Rect.unit (s := S2x864) (k0_off1 i (BitVec.ofNat 32 ch)) S1x1.size inb).toLoadRect (harg.unread x) (Shape.Idx.first h)

/-- The second batch's scale of a channel, loaded. -/
def ldS2 (arg : Memref sig .tc .smem S2x864 .f32) (harg : arg.IsWhole) (x : Vec Ideal S2x864 .f32) (ch : ℕ)
    (inb : ∀ a, k0_off2 i (BitVec.ofNat 32 ch) a + S1x1.size a ≤ S2x864.size a) (h : 0 < S1x1.numel) : EReal :=
  View.readAt (Elt Ideal) arg.view (Rect.unit (s := S2x864) (k0_off2 i (BitVec.ofNat 32 ch)) S1x1.size inb).toLoadRect (harg.unread x) (Shape.Idx.first h)

/-- The scale of channel `ch` of the point's block in batch `b`. -/
def scl (x : Vec Ideal S2x864 .f32) (b : Fin 2) (ch : Fin 4) : EReal :=
  x (ix2 b ⟨4 * (i 0).val + ch, by have : (i 0).val < 216 := (i 0).2; omega⟩)

/-- The first batch's scale the body loads is the channel's. -/
theorem ldS1_eq (arg : Memref sig .tc .smem S2x864 .f32) (harg : arg.IsWhole) (x : Vec Ideal S2x864 .f32) (ch : ℕ) (inb h) (hc : ch < 4) :
    ldS1 i arg harg x ch inb h = scl i x 0 ⟨ch, hc⟩ := by
  have e : k0_off1 i (BitVec.ofNat 32 ch) = _ := k0_off1_eq i ⟨ch, hc⟩
  rw [ldS1, View.readAt_eq_ld, harg.read_unread]
  refine View.ld_unit_apply_of _ _ _ _ _ _ fun a => ?_
  refine Eq.trans ?_ (congrArg (· + _) (congrFun e a).symm)
  fin_cases a <;> rfl

/-- The second batch's scale the body loads is the channel's. -/
theorem ldS2_eq (arg : Memref sig .tc .smem S2x864 .f32) (harg : arg.IsWhole) (x : Vec Ideal S2x864 .f32) (ch : ℕ) (inb h) (hc : ch < 4) :
    ldS2 i arg harg x ch inb h = scl i x 1 ⟨ch, hc⟩ := by
  have e : k0_off2 i (BitVec.ofNat 32 ch) = _ := k0_off2_eq i ⟨ch, hc⟩
  rw [ldS2, View.readAt_eq_ld, harg.read_unread]
  refine View.ld_unit_apply_of _ _ _ _ _ _ fun a => ?_
  refine Eq.trans ?_ (congrArg (· + _) (congrFun e a).symm)
  fin_cases a <;> rfl

/-- The weight of a batch in the filter's gradient: the product of the two scales. -/
def wt (b : ℕ) (ch : Fin 4) : EReal := scl i x0 (Fin.ofNat 2 b) ch * scl i x1 (Fin.ofNat 2 b) ch

variable (arg16 : Memref sig .tc .vmem S5x4x2x128x256 .bf16) (L : List (View.Piece (Elt Ideal) S5x4x2x128x256 .bf16))
  (arg9 : Memref sig .tc .vmem S64x64 .fp8e4m3) (harg9 : arg9.IsWhole) (arg10 : Memref sig .tc .vmem S64x64 .fp8e4m3) (harg10 : arg10.IsWhole)
  (x6 : Vec Ideal S256x1024 .fp8e4m3) (x7 : Vec Ideal S1024x256 .fp8e4m3) (x8 x9 : Vec Ideal S64x64 .fp8e4m3)
  (x10 x11 : Vec Ideal S64x512 .f32) (g : ℕ → Fin 4 → Fin 64 → Fin 256 → EReal)
  (hL : View.PiecesOf (BG (tab x6 x7 x8 x9 x10 x11) g) L) (hcov : ∀ y, ∃ p ∈ L, y ∈ p.1.set)
include hL hcov

/-- A stored half of the batch sum, real, is the second scratch's function there. -/
theorem g_re (ch jt : ℕ) (x : S1x1x1x64x256.Idx) (hc : ch < 4 := by decide) (hj : jt < 2 := by decide)
    (i0 : ∀ a, (![0, ch, jt, 0, 0] : Fin 5 → ℕ) a + S1x1x1x128x256.size a ≤ S5x4x2x128x256.size a := by decide) (i1 : ∀ a, (![1, ch, jt, 0, 0] : Fin 5 → ℕ) a + S1x1x1x128x256.size a ≤ S5x4x2x128x256.size a := by decide)
    (i2 : ∀ a, (![2, ch, jt, 0, 0] : Fin 5 → ℕ) a + S1x1x1x128x256.size a ≤ S5x4x2x128x256.size a := by decide) (i3 : ∀ a, (![3, ch, jt, 0, 0] : Fin 5 → ℕ) a + S1x1x1x128x256.size a ≤ S5x4x2x128x256.size a := by decide)
    (j0 j1 : ∀ a, (![0, 0] : Fin 2 → ℕ) a + S64x64.size a ≤ S64x64.size a := by decide) (h : S128x256.Slices ![0, 0] S64x256 := by decide) (h' : S128x256.Slices ![64, 0] S64x256 := by decide)
    (k0 k1 : ∀ a, k0_off1 i (BitVec.ofNat 32 ch) a + S1x1.size a ≤ S2x864.size a := by exact k0_off1_inb i ⟨_, by decide⟩) (k2 k3 : ∀ a, k0_off2 i (BitVec.ofNat 32 ch) a + S1x1.size a ≤ S2x864.size a := by exact k0_off2_inb i ⟨_, by decide⟩)
    (n0 n1 n2 n3 : 0 < S1x1.numel := by decide)
    (inbO : ∀ a, (![2, ch, jt, 0, 0] : Fin 5 → ℕ) a + S1x1x1x64x256.size a ≤ S3x4x2x128x256.size a := by decide) :
    gSt (zPayRe (t2 arg9 harg9 arg10 harg10 x8 x9 j0 j1) (ldB arg16 L 0 ch jt i0) (ldB arg16 L 2 ch jt i2) h h') (zPayRe (t2 arg9 harg9 arg10 harg10 x8 x9 j0 j1) (ldB arg16 L 1 ch jt i1) (ldB arg16 L 3 ch jt i3) h h')
        (ldS1 i arg1 harg1 x0 ch k0 n0) (ldS1 i arg2 harg2 x1 ch k1 n1) (ldS2 i arg1 harg1 x0 ch k2 n2) (ldS2 i arg2 harg2 x1 ch k3 n3) x
      = ZG (tab x6 x7 x8 x9 x10 x11) g (wt i x0 x1) ((Rect.unit (s := S3x4x2x128x256) ![2, ch, jt, 0, 0] S1x1x1x64x256.size inbO).emb x) := by
  idx_vars x
  rw [ZG_re _ _ _ _ _ _ _ _ _ _ _ _ hc hj, zfRe, if_neg (by omega), ← zPayRe_apply arg16 L arg9 harg9 arg10 harg10 x6 x7 x8 x9 x10 x11 g hL hcov 0 2 ch jt i0 i2 j0 j1 h h' hc hj,
    ← zPayRe_apply arg16 L arg9 harg9 arg10 harg10 x6 x7 x8 x9 x10 x11 g hL hcov 1 3 ch jt i1 i3 j0 j1 h h' hc hj]
  rw [ldS1_eq _ _ _ _ _ _ _ hc, ldS1_eq _ _ _ _ _ _ _ hc, ldS2_eq _ _ _ _ _ _ _ hc, ldS2_eq _ _ _ _ _ _ _ hc]
  pointwise [gSt]
  rfl

/-- A stored half of the batch sum, imaginary, is the second scratch's function there. -/
theorem g_im (ch jt : ℕ) (x : S1x1x1x64x256.Idx) (hc : ch < 4 := by decide) (hj : jt < 2 := by decide)
    (i0 : ∀ a, (![0, ch, jt, 0, 0] : Fin 5 → ℕ) a + S1x1x1x128x256.size a ≤ S5x4x2x128x256.size a := by decide) (i1 : ∀ a, (![1, ch, jt, 0, 0] : Fin 5 → ℕ) a + S1x1x1x128x256.size a ≤ S5x4x2x128x256.size a := by decide)
    (i2 : ∀ a, (![2, ch, jt, 0, 0] : Fin 5 → ℕ) a + S1x1x1x128x256.size a ≤ S5x4x2x128x256.size a := by decide) (i3 : ∀ a, (![3, ch, jt, 0, 0] : Fin 5 → ℕ) a + S1x1x1x128x256.size a ≤ S5x4x2x128x256.size a := by decide)
    (j0 j1 : ∀ a, (![0, 0] : Fin 2 → ℕ) a + S64x64.size a ≤ S64x64.size a := by decide) (h : S128x256.Slices ![0, 0] S64x256 := by decide) (h' : S128x256.Slices ![64, 0] S64x256 := by decide)
    (k0 k1 : ∀ a, k0_off1 i (BitVec.ofNat 32 ch) a + S1x1.size a ≤ S2x864.size a := by exact k0_off1_inb i ⟨_, by decide⟩) (k2 k3 : ∀ a, k0_off2 i (BitVec.ofNat 32 ch) a + S1x1.size a ≤ S2x864.size a := by exact k0_off2_inb i ⟨_, by decide⟩)
    (n0 n1 n2 n3 : 0 < S1x1.numel := by decide)
    (inbO : ∀ a, (![2, ch, jt, 64, 0] : Fin 5 → ℕ) a + S1x1x1x64x256.size a ≤ S3x4x2x128x256.size a := by decide) :
    gSt (zPayIm (t2 arg9 harg9 arg10 harg10 x8 x9 j0 j1) (ldB arg16 L 0 ch jt i0) (ldB arg16 L 2 ch jt i2) h h') (zPayIm (t2 arg9 harg9 arg10 harg10 x8 x9 j0 j1) (ldB arg16 L 1 ch jt i1) (ldB arg16 L 3 ch jt i3) h h')
        (ldS1 i arg1 harg1 x0 ch k0 n0) (ldS1 i arg2 harg2 x1 ch k1 n1) (ldS2 i arg1 harg1 x0 ch k2 n2) (ldS2 i arg2 harg2 x1 ch k3 n3) x
      = ZG (tab x6 x7 x8 x9 x10 x11) g (wt i x0 x1) ((Rect.unit (s := S3x4x2x128x256) ![2, ch, jt, 64, 0] S1x1x1x64x256.size inbO).emb x) := by
  idx_vars x
  rw [ZG_im _ _ _ _ _ _ _ _ _ _ _ _ hc hj, zfIm, if_neg (by omega), ← zPayIm_apply arg16 L arg9 harg9 arg10 harg10 x6 x7 x8 x9 x10 x11 g hL hcov 0 2 ch jt i0 i2 j0 j1 h h' hc hj,
    ← zPayIm_apply arg16 L arg9 harg9 arg10 harg10 x6 x7 x8 x9 x10 x11 g hL hcov 1 3 ch jt i1 i3 j0 j1 h h' hc hj]
  rw [ldS1_eq _ _ _ _ _ _ _ hc, ldS1_eq _ _ _ _ _ _ _ hc, ldS2_eq _ _ _ _ _ _ _ hc, ldS2_eq _ _ _ _ _ _ _ hc]
  pointwise [gSt]
  rfl
end

end Cert.KernelIdeal.Val

end
-- ==== Proof.KZs.lean ====
module

public import proofs.«01_k».proof.Proof.KZ

@[expose] public section

set_option maxRecDepth 16384

noncomputable section

namespace Cert.KernelIdeal.Val

open Cert.KernelIdeal Cert.KernelIdeal.Gen Idealize.ShloMosaic Idealize.ShloMosaic.TcCoe Idealize.SL.Sem Cert.Dft

section
variable (c : Dev nD) (i : grid0.Coords) (arg1 : Memref sig .tc .smem S2x864 .f32) (harg1 : arg1.IsWhole) (arg2 : Memref sig .tc .smem S2x864 .f32) (harg2 : arg2.IsWhole)
  (arg4 : Memref sig .tc .vmem S2x4x64x256 .fp8e4m3) (harg4 : arg4.IsWhole) (arg5 : Memref sig .tc .vmem S2x4x64x256 .fp8e5m2) (harg5 : arg5.IsWhole)
  (arg6 : Memref sig .tc .vmem S4x64x256 .bf16) (harg6 : arg6.IsWhole) (arg7 : Memref sig .tc .vmem S256x1024 .fp8e4m3) (harg7 : arg7.IsWhole)
  (arg9 : Memref sig .tc .vmem S64x64 .fp8e4m3) (harg9 : arg9.IsWhole) (arg10 : Memref sig .tc .vmem S64x64 .fp8e4m3) (harg10 : arg10.IsWhole)
  (arg11 : Memref sig .tc .vmem S64x512 .f32) (harg11 : arg11.IsWhole) (arg12 : Memref sig .tc .vmem S64x512 .f32) (harg12 : arg12.IsWhole)
  (arg16 : Memref sig .tc .vmem S5x4x2x128x256 .bf16)
  (x0 x1 : Vec Ideal S2x864 .f32)
  (x3 : Vec Ideal S2x4x64x256 .fp8e4m3) (x4 : Vec Ideal S2x4x64x256 .fp8e5m2) (x5 : Vec Ideal S4x64x256 .bf16)
  (x6 : Vec Ideal S256x1024 .fp8e4m3) (x7 : Vec Ideal S1024x256 .fp8e4m3) (x8 x9 : Vec Ideal S64x64 .fp8e4m3)
  (x10 x11 : Vec Ideal S64x512 .f32)

/-- The stores into the first scratch cover it. -/
theorem cover0 : ∀ y, ∃ p ∈ kernelRun0_A.sl.HS0_80 c arg4 harg4 arg5 harg5 arg6 harg6 arg7 harg7 arg11 harg11 arg12 harg12 x3 x4 x5 x6 x10 x11, y ∈ p.1.set :=
  fun y => View.cover_of_tiledL (kernelRun0_A.sl.HS0_80 c arg4 harg4 arg5 harg5 arg6 harg6 arg7 harg7 arg11 harg11 arg12 harg12 x3 x4 x5 x6 x10 x11) S1x1x1x64x256.size (by sl_kernel_rfl) y

/-- Every store into the second scratch leaves a block of its function. -/
theorem pieces1 : View.PiecesOf (ZG (tab x6 x7 x8 x9 x10 x11) (sg x3 x4 x5) (wt i x0 x1))
    (kernelRun0_A.sl.HS1_48 c i arg1 harg1 arg2 harg2 arg4 harg4 arg5 harg5 arg6 harg6 arg7 harg7 arg9 harg9 arg10 harg10 arg11 harg11 arg12 harg12 arg16 x0 x1 x3 x4 x5 x6 x8 x9 x10 x11) := by
  have hL := pieces0 c arg4 harg4 arg5 harg5 arg6 harg6 arg7 harg7 arg11 harg11 arg12 harg12 x3 x4 x5 x6 x7 x8 x9 x10 x11
  have hcov := cover0 c arg4 harg4 arg5 harg5 arg6 harg6 arg7 harg7 arg11 harg11 arg12 harg12 x3 x4 x5 x6 x10 x11
  unfold kernelRun0_A.sl.HS1_48
  iterate 8
    refine And.intro (fun x => g_im i arg1 harg1 arg2 harg2 x0 x1 arg16 _ arg9 harg9 arg10 harg10 x6 x7 x8 x9 x10 x11 _ hL hcov _ _ x) (And.intro (fun x => g_re i arg1 harg1 arg2 harg2 x0 x1 arg16 _ arg9 harg9 arg10 harg10 x6 x7 x8 x9 x10 x11 _ hL hcov _ _ x) ?_)
    iterate 2 refine And.intro (fun x => z_im arg16 _ arg9 harg9 arg10 harg10 x6 x7 x8 x9 x10 x11 _ _ hL hcov _ _ _ _ x) (And.intro (fun x => z_re arg16 _ arg9 harg9 arg10 harg10 x6 x7 x8 x9 x10 x11 _ _ hL hcov _ _ _ _ x) ?_)
  exact trivial

/-- The stores into the second scratch cover it. -/
theorem cover1 : ∀ y, ∃ p ∈ kernelRun0_A.sl.HS1_48 c i arg1 harg1 arg2 harg2 arg4 harg4 arg5 harg5 arg6 harg6 arg7 harg7 arg9 harg9 arg10 harg10 arg11 harg11 arg12 harg12 arg16 x0 x1 x3 x4 x5 x6 x8 x9 x10 x11, y ∈ p.1.set :=
  fun y => View.cover_of_tiledL (kernelRun0_A.sl.HS1_48 c i arg1 harg1 arg2 harg2 arg4 harg4 arg5 harg5 arg6 harg6 arg7 harg7 arg9 harg9 arg10 harg10 arg11 harg11 arg12 harg12 arg16 x0 x1 x3 x4 x5 x6 x8 x9 x10 x11) S1x1x1x64x256.size (by sl_kernel_rfl) y
end

end Cert.KernelIdeal.Val

end
-- ==== Proof.KD.lean ====
module

public import proofs.«01_k».proof.Proof.KZs

@[expose] public section

set_option maxRecDepth 16384

noncomputable section

namespace Cert.KernelIdeal.Val

open Cert.KernelIdeal Cert.KernelIdeal.Gen Idealize.ShloMosaic Idealize.ShloMosaic.TcCoe Idealize.SL.Sem Cert.Dft

section
variable (T : Tab) (g : ℕ → Fin 4 → Fin 64 → Fin 256 → EReal) (w : ℕ → Fin 4 → EReal)

/-- The third stage of product spectrum `o` of channel `ch`, real part. -/
def dfRe (o : ℕ) (ch : Fin 4) (J : Fin 512) (n : Fin 64) : EReal := dRe T (zfRe T g w o ch J) (zfIm T g w o ch J) J n

/-- The third stage of product spectrum `o` of channel `ch`, imaginary part. -/
def dfIm (o : ℕ) (ch : Fin 4) (J : Fin 512) (n : Fin 64) : EReal := dIm T (zfRe T g w o ch J) (zfIm T g w o ch J) J n

/-- What a point leaves in the third scratch. -/
def DG : S768x1024.Idx → Elt Ideal .bf16 := fun y =>
  if h : (y 1 : ℕ) < 512 then dfRe T g w ((y 0 : ℕ) / 256) ⟨(y 0 : ℕ) / 64 % 4, by omega⟩ ⟨y 1, h⟩ ⟨(y 0 : ℕ) % 64, by omega⟩
  else dfIm T g w ((y 0 : ℕ) / 256) ⟨(y 0 : ℕ) / 64 % 4, by omega⟩ ⟨y 1 - 512, by have : (y 1 : ℕ) < 1024 := (y 1).2; omega⟩ ⟨(y 0 : ℕ) % 64, by omega⟩

variable (o ch jt R q : ℕ) (x0 : Fin 64) (x1 : Fin 256)

/-- The third scratch's function at an index of a real block. -/
theorem DG_re (inb) (hc : ch < 4) (hj : jt < 2) (hR : R = 256 * o + 64 * ch) (hq : q = 256 * jt) :
    DG T g w ((Rect.unit (s := S768x1024) ![R, q] S64x256.size inb).emb (ix2 x0 x1)) = dfRe T g w o ⟨ch, hc⟩ ⟨256 * jt + x1, by omega⟩ x0 := by
  subst hR hq
  have e0 : ((Rect.unit (s := S768x1024) ![256 * o + 64 * ch, 256 * jt] S64x256.size inb).emb (ix2 x0 x1) 0 : ℕ) = 256 * o + 64 * ch + x0 := by blk_simp
  have e1 : ((Rect.unit (s := S768x1024) ![256 * o + 64 * ch, 256 * jt] S64x256.size inb).emb (ix2 x0 x1) 1 : ℕ) = 256 * jt + x1 := by blk_simp
  rw [DG, dif_pos (by rw [e1]; omega)]
  simp only [e0, e1]
  have a : (256 * o + 64 * ch + x0) / 256 = o := by omega
  have b : (256 * o + 64 * ch + x0) / 64 % 4 = ch := by omega
  have d : (256 * o + 64 * ch + x0) % 64 = x0 := by omega
  simp only [a, b, d]

/-- The third scratch's function at an index of an imaginary block. -/
theorem DG_im (inb) (hc : ch < 4) (hj : jt < 2) (hR : R = 256 * o + 64 * ch) (hq : q = 512 + 256 * jt) :
    DG T g w ((Rect.unit (s := S768x1024) ![R, q] S64x256.size inb).emb (ix2 x0 x1)) = dfIm T g w o ⟨ch, hc⟩ ⟨256 * jt + x1, by omega⟩ x0 := by
  subst hR hq
  have e0 : ((Rect.unit (s := S768x1024) ![256 * o + 64 * ch, 512 + 256 * jt] S64x256.size inb).emb (ix2 x0 x1) 0 : ℕ) = 256 * o + 64 * ch + x0 := by blk_simp
  have e1 : ((Rect.unit (s := S768x1024) ![256 * o + 64 * ch, 512 + 256 * jt] S64x256.size inb).emb (ix2 x0 x1) 1 : ℕ) = 512 + 256 * jt + x1 := by blk_simp
  rw [DG, dif_neg (by rw [e1]; omega)]
  simp only [e0, e1]
  have a : (256 * o + 64 * ch + x0) / 256 = o := by omega
  have b : (256 * o + 64 * ch + x0) / 64 % 4 = ch := by omega
  have d : (256 * o + 64 * ch + x0) % 64 = x0 := by omega
  have e : 512 + 256 * jt + (x1 : ℕ) - 512 = 256 * jt + x1 := by omega
  simp only [a, b, d, e]
end

/-- A stored block of the third scratch, real. -/
def dStRe (t : FVec Ideal S128x128 .bf16) (v : FVec Ideal S1x1x1x128x256 .bf16) (Tr Ti : FVec Ideal S64x256 .f32)
    (h : S128x256.Slices ![0, 0] S64x256) (h' : S128x256.Slices ![64, 0] S64x256) : FVec Ideal S64x256 .bf16 :=
  shapeCast S64x256 (truncf .bf16 (addf (mulf (half t v 0 h) Tr) (mulf (half t v 64 h') Ti)) bitsLt_bf16_f32) shapeCasts_S64x256_S64x256

/-- A stored block of the third scratch, imaginary. -/
def dStIm (t : FVec Ideal S128x128 .bf16) (v : FVec Ideal S1x1x1x128x256 .bf16) (Tr Ti : FVec Ideal S64x256 .f32)
    (h : S128x256.Slices ![0, 0] S64x256) (h' : S128x256.Slices ![64, 0] S64x256) : FVec Ideal S64x256 .bf16 :=
  shapeCast S64x256 (truncf .bf16 (subf (mulf (half t v 64 h') Tr) (mulf (half t v 0 h) Ti)) bitsLt_bf16_f32) shapeCasts_S64x256_S64x256

section
variable (arg17 : Memref sig .tc .vmem S3x4x2x128x256 .bf16) (L : List (View.Piece (Elt Ideal) S3x4x2x128x256 .bf16))
  (arg9 : Memref sig .tc .vmem S64x64 .fp8e4m3) (harg9 : arg9.IsWhole) (arg10 : Memref sig .tc .vmem S64x64 .fp8e4m3) (harg10 : arg10.IsWhole)
  (arg11 : Memref sig .tc .vmem S64x512 .f32) (harg11 : arg11.IsWhole) (arg12 : Memref sig .tc .vmem S64x512 .f32) (harg12 : arg12.IsWhole)
  (x6 : Vec Ideal S256x1024 .fp8e4m3) (x7 : Vec Ideal S1024x256 .fp8e4m3) (x8 x9 : Vec Ideal S64x64 .fp8e4m3)
  (x10 x11 : Vec Ideal S64x512 .f32) (g : ℕ → Fin 4 → Fin 64 → Fin 256 → EReal) (w : ℕ → Fin 4 → EReal)
  (hL : View.PiecesOf (ZG (tab x6 x7 x8 x9 x10 x11) g w) L) (hcov : ∀ y, ∃ p ∈ L, y ∈ p.1.set)

/-- A column pair loaded from the second scratch. -/
def ldZ (s ch jt : ℕ) (inb : ∀ a, (![s, ch, jt, 0, 0] : Fin 5 → ℕ) a + S1x1x1x128x256.size a ≤ S3x4x2x128x256.size a) : FVec Ideal S1x1x1x128x256 .bf16 :=
  arg17.view.readCov L (Rect.unit (s := S3x4x2x128x256) ![s, ch, jt, 0, 0] S1x1x1x128x256.size inb).toLoadRect

include hL hcov

/-- The upper half of the third stage's product: its real part. -/
theorem halfZ_re (s ch jt : ℕ) (inb inb' inb'' h) (hc : ch < 4) (hj : jt < 2) (k : Fin 64) (j : Fin 256) :
    half (t3 arg9 harg9 arg10 harg10 x8 x9 inb' inb'') (ldZ arg17 L s ch jt inb) 0 h (ix2 k j)
      = ∑ n, x8 (ix2 k n) * zfRe (tab x6 x7 x8 x9 x10 x11) g w s ⟨ch, hc⟩ ⟨256 * jt + j, by omega⟩ n + ∑ n, x9 (ix2 k n) * zfIm (tab x6 x7 x8 x9 x10 x11) g w s ⟨ch, hc⟩ ⟨256 * jt + j, by omega⟩ n :=
  half_apply _ _ _ _ (by omega) _ _ _ _ _ _ (fun n => (t3_apply _ _ _ _ _ _ _ _ k n (by omega) _ (by omega) (by omega)).1) (fun n => (t3_apply _ _ _ _ _ _ _ _ k n _ (by omega) _ (by omega)).2.1)
    (fun n => (readCov_of _ _ _ hL hcov _ _).trans (ZG_ld_re _ _ _ _ _ _ _ _ _ _ _ _ hc hj _)) (fun n => (readCov_of _ _ _ hL hcov _ _).trans (ZG_ld_im _ _ _ _ _ _ _ _ _ _ _ _ hc hj _))

/-- The lower half of the third stage's product: its imaginary part. -/
theorem halfZ_im (s ch jt : ℕ) (inb inb' inb'' h) (hc : ch < 4) (hj : jt < 2) (k : Fin 64) (j : Fin 256) :
    half (t3 arg9 harg9 arg10 harg10 x8 x9 inb' inb'') (ldZ arg17 L s ch jt inb) 64 h (ix2 k j)
      = ∑ n, -x9 (ix2 k n) * zfRe (tab x6 x7 x8 x9 x10 x11) g w s ⟨ch, hc⟩ ⟨256 * jt + j, by omega⟩ n + ∑ n, x8 (ix2 k n) * zfIm (tab x6 x7 x8 x9 x10 x11) g w s ⟨ch, hc⟩ ⟨256 * jt + j, by omega⟩ n :=
  half_apply _ _ _ _ (by omega) _ _ _ _ _ _ (fun n => (t3_apply _ _ _ _ _ _ _ _ k n (by omega) _ (by omega) (by omega)).2.2.1) (fun n => (t3_apply _ _ _ _ _ _ _ _ k n (by omega) (by omega) _ _).2.2.2)
    (fun n => (readCov_of _ _ _ hL hcov _ _).trans (ZG_ld_re _ _ _ _ _ _ _ _ _ _ _ _ hc hj _)) (fun n => (readCov_of _ _ _ hL hcov _ _).trans (ZG_ld_im _ _ _ _ _ _ _ _ _ _ _ _ hc hj _))

/-- A stored real block of the third scratch is its function there. -/
theorem d_re (o ch jt R q : ℕ) (x : S64x256.Idx) (hc : ch < 4 := by decide) (hj : jt < 2 := by decide) (hR : R = 256 * o + 64 * ch := by rfl) (hq : q = 256 * jt := by rfl)
    (inb : ∀ a, (![o, ch, jt, 0, 0] : Fin 5 → ℕ) a + S1x1x1x128x256.size a ≤ S3x4x2x128x256.size a := by decide)
    (i i' : ∀ a, (![0, 0] : Fin 2 → ℕ) a + S64x64.size a ≤ S64x64.size a := by decide) (h : S128x256.Slices ![0, 0] S64x256 := by decide) (h' : S128x256.Slices ![64, 0] S64x256 := by decide)
    (inbt inbt' : ∀ a, (![0, q] : Fin 2 → ℕ) a + S64x256.size a ≤ S64x512.size a := by decide)
    (inbO : ∀ a, (![R, q] : Fin 2 → ℕ) a + S64x256.size a ≤ S768x1024.size a := by decide) :
    dStRe (t3 arg9 harg9 arg10 harg10 x8 x9 i i') (ldZ arg17 L o ch jt inb) (ldT arg11 harg11 x10 q inbt) (ldT arg12 harg12 x11 q inbt') h h' x
      = DG (tab x6 x7 x8 x9 x10 x11) g w ((Rect.unit (s := S768x1024) ![R, q] S64x256.size inbO).emb x) := by
  idx_vars x
  subst hq
  rw [DG_re _ _ _ _ _ _ _ _ _ _ _ hc hj hR rfl]
  refine (congrFun (shapeCast_self _ _) _).trans ?_
  exact congrArg₂ (· + ·) (congrArg₂ (· * ·) (halfZ_re _ _ _ _ _ _ x6 x7 x8 x9 x10 x11 _ _ hL hcov _ _ _ _ _ _ _ hc hj _ _) (ldT_apply ..))
    (congrArg₂ (· * ·) (halfZ_im _ _ _ _ _ _ x6 x7 x8 x9 x10 x11 _ _ hL hcov _ _ _ _ _ _ _ hc hj _ _) (ldT_apply ..))

/-- A stored imaginary block of the third scratch is its function there. -/
theorem d_im (o ch jt R q q' : ℕ) (x : S64x256.Idx) (hc : ch < 4 := by decide) (hj : jt < 2 := by decide) (hR : R = 256 * o + 64 * ch := by rfl) (hq : q = 256 * jt := by rfl)
    (hq' : q' = 512 + 256 * jt := by rfl)
    (inb : ∀ a, (![o, ch, jt, 0, 0] : Fin 5 → ℕ) a + S1x1x1x128x256.size a ≤ S3x4x2x128x256.size a := by decide)
    (i i' : ∀ a, (![0, 0] : Fin 2 → ℕ) a + S64x64.size a ≤ S64x64.size a := by decide) (h : S128x256.Slices ![0, 0] S64x256 := by decide) (h' : S128x256.Slices ![64, 0] S64x256 := by decide)
    (inbt inbt' : ∀ a, (![0, q] : Fin 2 → ℕ) a + S64x256.size a ≤ S64x512.size a := by decide)
    (inbO : ∀ a, (![R, q'] : Fin 2 → ℕ) a + S64x256.size a ≤ S768x1024.size a := by decide) :
    dStIm (t3 arg9 harg9 arg10 harg10 x8 x9 i i') (ldZ arg17 L o ch jt inb) (ldT arg11 harg11 x10 q inbt) (ldT arg12 harg12 x11 q inbt') h h' x
      = DG (tab x6 x7 x8 x9 x10 x11) g w ((Rect.unit (s := S768x1024) ![R, q'] S64x256.size inbO).emb x) := by
  idx_vars x
  subst hq hq'
  rw [DG_im _ _ _ _ _ _ _ _ _ _ _ hc hj hR rfl]
  refine (congrFun (shapeCast_self _ _) _).trans ?_
  exact congrArg₂ (· - ·) (congrArg₂ (· * ·) (halfZ_im _ _ _ _ _ _ x6 x7 x8 x9 x10 x11 _ _ hL hcov _ _ _ _ _ _ _ hc hj _ _) (ldT_apply ..))
    (congrArg₂ (· * ·) (halfZ_re _ _ _ _ _ _ x6 x7 x8 x9 x10 x11 _ _ hL hcov _ _ _ _ _ _ _ hc hj _ _) (ldT_apply ..))
end

section
variable (c : Dev nD) (i : grid0.Coords) (arg1 : Memref sig .tc .smem S2x864 .f32) (harg1 : arg1.IsWhole) (arg2 : Memref sig .tc .smem S2x864 .f32) (harg2 : arg2.IsWhole)
  (arg4 : Memref sig .tc .vmem S2x4x64x256 .fp8e4m3) (harg4 : arg4.IsWhole) (arg5 : Memref sig .tc .vmem S2x4x64x256 .fp8e5m2) (harg5 : arg5.IsWhole)
  (arg6 : Memref sig .tc .vmem S4x64x256 .bf16) (harg6 : arg6.IsWhole) (arg7 : Memref sig .tc .vmem S256x1024 .fp8e4m3) (harg7 : arg7.IsWhole)
  (arg9 : Memref sig .tc .vmem S64x64 .fp8e4m3) (harg9 : arg9.IsWhole) (arg10 : Memref sig .tc .vmem S64x64 .fp8e4m3) (harg10 : arg10.IsWhole)
  (arg11 : Memref sig .tc .vmem S64x512 .f32) (harg11 : arg11.IsWhole) (arg12 : Memref sig .tc .vmem S64x512 .f32) (harg12 : arg12.IsWhole)
  (arg16 : Memref sig .tc .vmem S5x4x2x128x256 .bf16) (arg17 : Memref sig .tc .vmem S3x4x2x128x256 .bf16)
  (x0 x1 : Vec Ideal S2x864 .f32)
  (x3 : Vec Ideal S2x4x64x256 .fp8e4m3) (x4 : Vec Ideal S2x4x64x256 .fp8e5m2) (x5 : Vec Ideal S4x64x256 .bf16)
  (x6 : Vec Ideal S256x1024 .fp8e4m3) (x7 : Vec Ideal S1024x256 .fp8e4m3) (x8 x9 : Vec Ideal S64x64 .fp8e4m3)
  (x10 x11 : Vec Ideal S64x512 .f32)

/-- Every store into the third scratch leaves a block of its function. -/
theorem pieces2 : View.PiecesOf (DG (tab x6 x7 x8 x9 x10 x11) (sg x3 x4 x5) (wt i x0 x1))
    (kernelRun0_A.sl.HS2_48 c i arg1 harg1 arg2 harg2 arg4 harg4 arg5 harg5 arg6 harg6 arg7 harg7 arg9 harg9 arg10 harg10 arg11 harg11 arg12 harg12 arg16 arg17 x0 x1 x3 x4 x5 x6 x8 x9 x10 x11) := by
  have hL := pieces1 c i arg1 harg1 arg2 harg2 arg4 harg4 arg5 harg5 arg6 harg6 arg7 harg7 arg9 harg9 arg10 harg10 arg11 harg11 arg12 harg12 arg16 x0 x1 x3 x4 x5 x6 x7 x8 x9 x10 x11
  have hcov := cover1 c i arg1 harg1 arg2 harg2 arg4 harg4 arg5 harg5 arg6 harg6 arg7 harg7 arg9 harg9 arg10 harg10 arg11 harg11 arg12 harg12 arg16 x0 x1 x3 x4 x5 x6 x8 x9 x10 x11
  unfold kernelRun0_A.sl.HS2_48
  iterate 24 refine And.intro (fun x => d_im arg17 _ arg9 harg9 arg10 harg10 arg11 harg11 arg12 harg12 x6 x7 x8 x9 x10 x11 _ _ hL hcov _ _ _ _ _ _ x) (And.intro (fun x => d_re arg17 _ arg9 harg9 arg10 harg10 arg11 harg11 arg12 harg12 x6 x7 x8 x9 x10 x11 _ _ hL hcov _ _ _ _ _ x) ?_)
  exact trivial

/-- The stores into the third scratch cover it. -/
theorem cover2 : ∀ y, ∃ p ∈ kernelRun0_A.sl.HS2_48 c i arg1 harg1 arg2 harg2 arg4 harg4 arg5 harg5 arg6 harg6 arg7 harg7 arg9 harg9 arg10 harg10 arg11 harg11 arg12 harg12 arg16 arg17 x0 x1 x3 x4 x5 x6 x8 x9 x10 x11, y ∈ p.1.set :=
  fun y => View.cover_of_tiledL (kernelRun0_A.sl.HS2_48 c i arg1 harg1 arg2 harg2 arg4 harg4 arg5 harg5 arg6 harg6 arg7 harg7 arg9 harg9 arg10 harg10 arg11 harg11 arg12 harg12 arg16 arg17 x0 x1 x3 x4 x5 x6 x8 x9 x10 x11) S64x256.size (by sl_kernel_rfl) y
end

end Cert.KernelIdeal.Val

end
-- ==== Proof.KOut.lean ====
module

public import proofs.«01_k».proof.Proof.KD

@[expose] public section

set_option maxRecDepth 16384

noncomputable section

namespace Cert.KernelIdeal.Val

open Cert.KernelIdeal Cert.KernelIdeal.Gen Idealize.ShloMosaic Idealize.ShloMosaic.TcCoe Idealize.SL.Sem Cert.Dft

/-- The constant the kernel scales the inverse transform by. -/
def invN : EReal := FloatOps.ofBits (F := Ideal) .f32 0x38000000#32

section
variable (T : Tab) (g : ℕ → Fin 4 → Fin 64 → Fin 256 → EReal) (w : ℕ → Fin 4 → EReal) (s : Fin 2 → Fin 4 → EReal) (d : Fin 4 → EReal)

/-- The inverse transform of product spectrum `o` of channel `ch`. -/
def xf (o : ℕ) (ch : Fin 4) (n : Fin 64) (m : Fin 256) : EReal := inv T (zfRe T g w o ch) (zfIm T g w o ch) n m

/-- What a point leaves in the input gradient's block. -/
def UG : S2x4x64x256.Idx → Elt Ideal .bf16 := fun y =>
  xf T g w (y 0 : ℕ) (y 1) (y 2) (y 3) * (s (y 0) (y 1) * invN) + g ((y 0 : ℕ) + 2) (y 1) (y 2) (y 3) * (d (y 1) * s (y 0) (y 1))

/-- What a point leaves in the filter gradient's block. -/
def KG : S4x64x256.Idx → Elt Ideal .f32 := fun y => xf T g w 2 (y 0) (y 1) (y 2) * invN

/-- What a point leaves in the skip gradient's block. -/
def QG : S4x1x128.Idx → Elt Ideal .f32 := fun y =>
  ∑ m : Fin 256, ((∑ n : Fin 64, g 0 (y 0) n m * g 2 (y 0) n m) * w 0 (y 0) + (∑ n : Fin 64, g 1 (y 0) n m * g 3 (y 0) n m) * w 1 (y 0))
end

section
variable (arg8 : Memref sig .tc .vmem S1024x256 .fp8e4m3) (harg8 : arg8.IsWhole) (arg18 : Memref sig .tc .vmem S768x1024 .bf16)
  (L : List (View.Piece (Elt Ideal) S768x1024 .bf16))
  (x6 : Vec Ideal S256x1024 .fp8e4m3) (x7 : Vec Ideal S1024x256 .fp8e4m3) (x8 x9 : Vec Ideal S64x64 .fp8e4m3)
  (x10 x11 : Vec Ideal S64x512 .f32) (g : ℕ → Fin 4 → Fin 64 → Fin 256 → EReal) (w : ℕ → Fin 4 → EReal)
  (hL : View.PiecesOf (DG (tab x6 x7 x8 x9 x10 x11) g w) L) (hcov : ∀ y, ∃ p ∈ L, y ∈ p.1.set)

/-- The last product: the third scratch times the inverse table. -/
def xMat (inb : ∀ a, (![0, 0] : Fin 2 → ℕ) a + S768x1024.size a ≤ S768x1024.size a) (inb' : ∀ a, (![0, 0] : Fin 2 → ℕ) a + S1024x256.size a ≤ S1024x256.size a) : FVec Ideal S768x256 .f32 :=
  k0_pay626 (arg18.view.readCov L (Rect.unit (s := S768x1024) ![0, 0] S768x1024.size inb).toLoadRect)
    (View.readAt (Elt Ideal) arg8.view (Rect.unit (s := S1024x256) ![0, 0] S1024x256.size inb').toLoadRect (harg8.unread x7))

include hL hcov

/-- The last product at a row of spectrum `o`, channel `ch` is the inverse transform. -/
theorem xMat_apply (o ch R : ℕ) (inb inb') (n : Fin 64) (m : Fin 256) (h) (hc : ch < 4) (hR : R = 256 * o + 64 * ch) :
    xMat arg8 harg8 arg18 L x7 inb inb' (ix2 ⟨R + n, h⟩ m) = xf (tab x6 x7 x8 x9 x10 x11) g w o ⟨ch, hc⟩ n m := by
  have e : ∀ (V : FVec Ideal S768x1024 .bf16) (W : FVec Ideal S1024x256 .fp8e4m3) (r : Fin 768), (k0_pay626 (F := Ideal) V W (ix2 r m) : EReal) = ∑ j : Fin (512 + 512), (V (ix2 r j) : EReal) * W (ix2 j m) := by
    intro V W r
    pointwise [k0_pay626]
  rw [xMat, e, Fin.sum_univ_add]
  have hD : ∀ j : Fin 1024, arg18.view.readCov L (Rect.unit (s := S768x1024) ![0, 0] S768x1024.size inb).toLoadRect (ix2 (⟨R + n, h⟩ : Fin 768) j)
      = DG (tab x6 x7 x8 x9 x10 x11) g w (ix2 (⟨R + n, h⟩ : Fin 768) j) := fun j =>
    (readCov_of _ _ _ hL hcov _ _).trans (congrArg _ (funext fun a => Fin.ext (by fin_cases a <;> simp [LoadRect.idx, Rect.unit])))
  have hT : ∀ j : Fin 1024, View.readAt (Elt Ideal) arg8.view (Rect.unit (s := S1024x256) ![0, 0] S1024x256.size inb').toLoadRect (harg8.unread x7) (ix2 j m) = x7 (ix2 j m) := fun j => by
    rw [View.readAt_eq_ld, harg8.read_unread]
    refine View.ld_unit_apply_of _ _ _ _ _ _ fun a => ?_
    fin_cases a <;> simp
  have a : (R + n : ℕ) / 256 = o := by omega
  have b : (R + n : ℕ) / 64 % 4 = ch := by omega
  have d : (R + n : ℕ) % 64 = n := by omega
  refine congrArg₂ (· + ·) (Finset.sum_congr rfl fun j _ => ?_) (Finset.sum_congr rfl fun j _ => ?_)
  · refine congrArg₂ (· * ·) ((hD _).trans ?_) (hT _)
    have hj : (j : ℕ) < 512 := j.2
    change (if h : (j : ℕ) < 512 then _ else _) = _
    rw [dif_pos hj]
    change dfRe _ _ _ ((R + n : ℕ) / 256) ⟨(R + n : ℕ) / 64 % 4, _⟩ ⟨j, _⟩ ⟨(R + n : ℕ) % 64, _⟩ = _
    simp only [a, b, d]
    rfl
  · refine congrArg₂ (· * ·) ((hD _).trans ?_) (hT _)
    change (if h : 512 + (j : ℕ) < 512 then _ else _) = _
    rw [dif_neg (by omega)]
    change dfIm _ _ _ ((R + n : ℕ) / 256) ⟨(R + n : ℕ) / 64 % 4, _⟩ ⟨512 + (j : ℕ) - 512, _⟩ ⟨(R + n : ℕ) % 64, _⟩ = _
    have e : 512 + (j : ℕ) - 512 = j := by omega
    simp only [a, b, d, e]
    rfl
end

/-- A stored block of the input gradient. -/
def uSt (X : FVec Ideal S768x256 .f32) (Y : FVec Ideal S1x1x64x256 .fp8e5m2) (s d : EReal) (R : ℕ) (h : S768x256.Slices ![R, 0] S64x256) : FVec Ideal S1x1x64x256 .bf16 :=
  shapeCast S1x1x64x256 (truncf .bf16 (addf
    (mulf (extractStridedSlice S64x256 ![R, 0] X h) (broadcast S64x256 (Scalar.mulf (F := Ideal) (φ := .f32) s (Scalar.ofBits .f32 0x38000000#32))))
    (mulf (extf .f32 (shapeCast S64x256 Y shapeCasts_S1x1x64x256_S64x256) bitsLt_fp8e5m2_f32) (broadcast S64x256 (Scalar.mulf (F := Ideal) (φ := .f32) d s))))
    bitsLt_bf16_f32) shapeCasts_S64x256_S1x1x64x256

/-- A stored block of the filter gradient. -/
def kSt (X : FVec Ideal S768x256 .f32) (R : ℕ) (h : S768x256.Slices ![R, 0] S64x256) : FVec Ideal S1x64x256 .f32 :=
  shapeCast S1x64x256 (mulf (extractStridedSlice S64x256 ![R, 0] X h) (broadcast S64x256 (Scalar.ofBits (F := Ideal) .f32 0x38000000#32))) shapeCasts_S64x256_S1x64x256

/-- One batch's share of the skip gradient, per row column. -/
def qRow (U : FVec Ideal S1x1x64x256 .fp8e4m3) (Y : FVec Ideal S1x1x64x256 .fp8e5m2) (s s' : EReal) : FVec Ideal S1x256 .f32 :=
  mulf (shapeCast S1x256 (multiReduction .add [0] S256 (mulf (extf .f32 (shapeCast S64x256 U shapeCasts_S1x1x64x256_S64x256) bitsLt_fp8e4m3_f32)
    (extf .f32 (shapeCast S64x256 Y shapeCasts_S1x1x64x256_S64x256) bitsLt_fp8e5m2_f32)) 0x00000000#32 reduces_S64x256_S256 (.inl rfl) rfl) shapeCasts_S256_S1x256)
    (broadcast S1x256 (Scalar.mulf (F := Ideal) (φ := .f32) s s'))

/-- A stored block of the skip gradient. -/
def qSt (p q : FVec Ideal S1x256 .f32) : FVec Ideal S1x1x128 .f32 :=
  shapeCast S1x1x128 (broadcast S128 (extractAt ![0, 0, 0] (shapeCast S1x1x1 (multiReduction .add [1, 2] S1 (shapeCast S1x1x256 (addf p q) shapeCasts_S1x256_S1x1x256)
    0x00000000#32 reduces_S1x1x256_S1 (.inl rfl) rfl) shapeCasts_S1_S1x1x1) inpos_S1x1x1_p0_0_0)) shapeCasts_S128_S1x1x128

/-- The value stored to the input gradient, entry by entry. -/
theorem uSt_apply (X : FVec Ideal S768x256 .f32) (Y : FVec Ideal S1x1x64x256 .fp8e5m2) (s d : EReal) (R : ℕ) (h) (a b : Fin 1) (n : Fin 64) (m : Fin 256) (v : EReal)
    (hX : ∀ h, X (ix2 ⟨R + n, h⟩ m) = v) :
    uSt X Y s d R h (ix4 a b n m) = v * (s * invN) + Y (ix4 0 0 n m) * (d * s) := by
  pointwise [uSt, hX]
  rfl

/-- The value stored to the filter gradient, entry by entry. -/
theorem kSt_apply (X : FVec Ideal S768x256 .f32) (R : ℕ) (h) (a : Fin 1) (n : Fin 64) (m : Fin 256) (v : EReal) (hX : ∀ h, X (ix2 ⟨R + n, h⟩ m) = v) :
    kSt X R h (ix3 a n m) = v * invN := by
  pointwise [kSt, hX]
  rfl

/-- One batch's row of products, summed over the columns and scaled. -/
theorem qRow_apply (U : FVec Ideal S1x1x64x256 .fp8e4m3) (Y : FVec Ideal S1x1x64x256 .fp8e5m2) (s s' : EReal) (a : Fin 1) (m : Fin 256) :
    qRow U Y s s' (ix2 a m) = (∑ n, U (ix4 0 0 n m) * Y (ix4 0 0 n m)) * (s * s') := by
  pointwise [qRow]

/-- The value stored to the skip weight's gradient: both batches' rows summed, on every lane. -/
theorem qSt_apply (p q : FVec Ideal S1x256 .f32) (a b : Fin 1) (e : Fin 128) :
    qSt p q (ix3 a b e) = ∑ m, (p (ix2 0 m) + q (ix2 0 m)) := by
  pointwise [qSt]
  exact Fin.sum_univ_one _

section
variable (i : grid0.Coords) (arg1 : Memref sig .tc .smem S2x864 .f32) (harg1 : arg1.IsWhole) (arg2 : Memref sig .tc .smem S2x864 .f32) (harg2 : arg2.IsWhole)
  (arg3 : Memref sig .tc .smem S1x864 .f32) (harg3 : arg3.IsWhole)
  (arg4 : Memref sig .tc .vmem S2x4x64x256 .fp8e4m3) (harg4 : arg4.IsWhole) (arg5 : Memref sig .tc .vmem S2x4x64x256 .fp8e5m2) (harg5 : arg5.IsWhole)
  (x0 x1 : Vec Ideal S2x864 .f32) (x2 : Vec Ideal S1x864 .f32)
  (x3 : Vec Ideal S2x4x64x256 .fp8e4m3) (x4 : Vec Ideal S2x4x64x256 .fp8e5m2) (x5 : Vec Ideal S4x64x256 .bf16)

/-- The skip weight of a channel, loaded. -/
def ldS3 (ch : ℕ) (inb : ∀ a, k0_off3 i (BitVec.ofNat 32 ch) a + S1x1.size a ≤ S1x864.size a) (h : 0 < S1x1.numel) : EReal :=
  View.readAt (Elt Ideal) arg3.view (Rect.unit (s := S1x864) (k0_off3 i (BitVec.ofNat 32 ch)) S1x1.size inb).toLoadRect (harg3.unread x2) (Shape.Idx.first h)

/-- The skip weight of channel `ch` of the point's block. -/
def skp (ch : Fin 4) : EReal := x2 (ix2 0 ⟨4 * (i 0).val + ch, by have : (i 0).val < 216 := (i 0).2; omega⟩)

/-- The skip weight the body loads is the channel's. -/
theorem ldS3_eq (ch : ℕ) (inb h) (hc : ch < 4) : ldS3 i arg3 harg3 x2 ch inb h = skp i x2 ⟨ch, hc⟩ := by
  have e : k0_off3 i (BitVec.ofNat 32 ch) = _ := k0_off3_eq i ⟨ch, hc⟩
  rw [ldS3, View.readAt_eq_ld, harg3.read_unread]
  refine View.ld_unit_apply_of _ _ _ _ _ _ fun a => ?_
  refine Eq.trans ?_ (congrArg (· + _) (congrFun e a).symm)
  fin_cases a <;> rfl

/-- A channel of the input, loaded. -/
def ldUc (b ch : ℕ) (inb : ∀ a, (![b, ch, 0, 0] : Fin 4 → ℕ) a + S1x1x64x256.size a ≤ S2x4x64x256.size a) : FVec Ideal S1x1x64x256 .fp8e4m3 :=
  View.readAt (Elt Ideal) arg4.view (Rect.unit (s := S2x4x64x256) ![b, ch, 0, 0] S1x1x64x256.size inb).toLoadRect (harg4.unread x3)

/-- A channel of the gradient, loaded. -/
def ldYc (b ch : ℕ) (inb : ∀ a, (![b, ch, 0, 0] : Fin 4 → ℕ) a + S1x1x64x256.size a ≤ S2x4x64x256.size a) : FVec Ideal S1x1x64x256 .fp8e5m2 :=
  View.readAt (Elt Ideal) arg5.view (Rect.unit (s := S2x4x64x256) ![b, ch, 0, 0] S1x1x64x256.size inb).toLoadRect (harg5.unread x4)

/-- What the load of one channel's input reads. -/
theorem ldUc_apply (b ch : ℕ) (inb) (hb : b < 2) (hc : ch < 4) (p q : Fin 1) (n : Fin 64) (m : Fin 256) :
    ldUc arg4 harg4 x3 b ch inb (ix4 p q n m) = sg x3 x4 x5 b ⟨ch, hc⟩ n m := by
  rw [ldUc, View.readAt_eq_ld, harg4.read_unread, sg, dif_pos hb]
  refine View.ld_unit_apply_of _ _ _ _ _ _ fun a => ?_
  fin_cases a <;> simp

/-- What the load of one channel's output gradient reads. -/
theorem ldYc_apply (b ch : ℕ) (inb) (hb : b < 2) (hc : ch < 4) (p q : Fin 1) (n : Fin 64) (m : Fin 256) :
    ldYc arg5 harg5 x4 b ch inb (ix4 p q n m) = sg x3 x4 x5 (b + 2) ⟨ch, hc⟩ n m := by
  rw [ldYc, View.readAt_eq_ld, harg5.read_unread, sg, dif_neg (by omega), dif_pos (by omega)]
  refine View.ld_unit_apply_of _ _ _ _ _ _ fun a => ?_
  fin_cases a <;> simp

variable (arg8 : Memref sig .tc .vmem S1024x256 .fp8e4m3) (harg8 : arg8.IsWhole) (arg18 : Memref sig .tc .vmem S768x1024 .bf16)
  (L : List (View.Piece (Elt Ideal) S768x1024 .bf16))
  (x6 : Vec Ideal S256x1024 .fp8e4m3) (x7 : Vec Ideal S1024x256 .fp8e4m3) (x8 x9 : Vec Ideal S64x64 .fp8e4m3)
  (x10 x11 : Vec Ideal S64x512 .f32) (w : ℕ → Fin 4 → EReal)
  (hL : View.PiecesOf (DG (tab x6 x7 x8 x9 x10 x11) (sg x3 x4 x5) w) L) (hcov : ∀ y, ∃ p ∈ L, y ∈ p.1.set)

/-- The input gradient's function at an index of a block. -/
theorem UG_at (T : Tab) (g : ℕ → Fin 4 → Fin 64 → Fin 256 → EReal) (w : ℕ → Fin 4 → EReal) (s : Fin 2 → Fin 4 → EReal) (d : Fin 4 → EReal) (b ch : ℕ) (p q : Fin 1) (n : Fin 64) (m : Fin 256)
    (inb) (hb : b < 2) (hc : ch < 4) :
    UG T g w s d ((Rect.unit (s := S2x4x64x256) ![b, ch, 0, 0] S1x1x64x256.size inb).emb (ix4 p q n m))
      = xf T g w b ⟨ch, hc⟩ n m * (s ⟨b, hb⟩ ⟨ch, hc⟩ * invN) + g (b + 2) ⟨ch, hc⟩ n m * (d ⟨ch, hc⟩ * s ⟨b, hb⟩ ⟨ch, hc⟩) := by
  have e : (Rect.unit (s := S2x4x64x256) ![b, ch, 0, 0] S1x1x64x256.size inb).emb (ix4 p q n m) = ix4 (⟨b, hb⟩ : Fin 2) (⟨ch, hc⟩ : Fin 4) n m :=
    funext fun a => Fin.ext (by fin_cases a <;> blk_simp <;> rfl)
  rw [e]
  rfl

/-- The filter gradient's function at an index of a block. -/
theorem KG_at (T : Tab) (g : ℕ → Fin 4 → Fin 64 → Fin 256 → EReal) (w : ℕ → Fin 4 → EReal) (ch : ℕ) (p : Fin 1) (n : Fin 64) (m : Fin 256)
    (inb) (hc : ch < 4) :
    KG T g w ((Rect.unit (s := S4x64x256) ![ch, 0, 0] S1x64x256.size inb).emb (ix3 p n m)) = xf T g w 2 ⟨ch, hc⟩ n m * invN := by
  have e : (Rect.unit (s := S4x64x256) ![ch, 0, 0] S1x64x256.size inb).emb (ix3 p n m) = ix3 (⟨ch, hc⟩ : Fin 4) n m :=
    funext fun a => Fin.ext (by fin_cases a <;> blk_simp <;> rfl)
  rw [e]
  rfl

/-- The skip gradient's function at an index of a block. -/
theorem QG_at (g : ℕ → Fin 4 → Fin 64 → Fin 256 → EReal) (w : ℕ → Fin 4 → EReal) (ch : ℕ) (p q : Fin 1) (e : Fin 128)
    (inb) (hc : ch < 4) :
    QG g w ((Rect.unit (s := S4x1x128) ![ch, 0, 0] S1x1x128.size inb).emb (ix3 p q e))
      = ∑ m : Fin 256, ((∑ n : Fin 64, g 0 ⟨ch, hc⟩ n m * g 2 ⟨ch, hc⟩ n m) * w 0 ⟨ch, hc⟩ + (∑ n : Fin 64, g 1 ⟨ch, hc⟩ n m * g 3 ⟨ch, hc⟩ n m) * w 1 ⟨ch, hc⟩) := by
  have e : (Rect.unit (s := S4x1x128) ![ch, 0, 0] S1x1x128.size inb).emb (ix3 p q e) = ix3 (⟨ch, hc⟩ : Fin 4) q e :=
    funext fun a => Fin.ext (by fin_cases a <;> blk_simp <;> rfl)
  rw [e]
  rfl

/-- A stored block of the skip gradient is its function there. -/
theorem q_st (ch : ℕ) (x : S1x1x128.Idx) (hc : ch < 4 := by decide)
    (i0 i2 : ∀ a, (![0, ch, 0, 0] : Fin 4 → ℕ) a + S1x1x64x256.size a ≤ S2x4x64x256.size a := by decide) (i1 i3 : ∀ a, (![1, ch, 0, 0] : Fin 4 → ℕ) a + S1x1x64x256.size a ≤ S2x4x64x256.size a := by decide)
    (k0 k1 : ∀ a, k0_off1 i (BitVec.ofNat 32 ch) a + S1x1.size a ≤ S2x864.size a := by exact k0_off1_inb i ⟨_, by decide⟩) (k2 k3 : ∀ a, k0_off2 i (BitVec.ofNat 32 ch) a + S1x1.size a ≤ S2x864.size a := by exact k0_off2_inb i ⟨_, by decide⟩)
    (n0 n1 n2 n3 : 0 < S1x1.numel := by decide)
    (inbO : ∀ a, (![ch, 0, 0] : Fin 3 → ℕ) a + S1x1x128.size a ≤ S4x1x128.size a := by decide) :
    qSt (qRow (ldUc arg4 harg4 x3 0 ch i0) (ldYc arg5 harg5 x4 0 ch i2) (ldS1 i arg2 harg2 x1 ch k1 n1) (ldS1 i arg1 harg1 x0 ch k0 n0))
        (qRow (ldUc arg4 harg4 x3 1 ch i1) (ldYc arg5 harg5 x4 1 ch i3) (ldS2 i arg2 harg2 x1 ch k3 n3) (ldS2 i arg1 harg1 x0 ch k2 n2)) x
      = QG (sg x3 x4 x5) (wt i x0 x1) ((Rect.unit (s := S4x1x128) ![ch, 0, 0] S1x1x128.size inbO).emb x) := by
  idx_vars x
  rw [QG_at _ _ _ _ _ _ _ hc, qSt_apply]
  refine Finset.sum_congr rfl fun m _ => ?_
  rw [qRow_apply, qRow_apply, ldS1_eq _ _ _ _ _ _ _ hc, ldS1_eq _ _ _ _ _ _ _ hc, ldS2_eq _ _ _ _ _ _ _ hc, ldS2_eq _ _ _ _ _ _ _ hc]
  refine congrArg₂ (· + ·) (congrArg₂ (· * ·) (Finset.sum_congr rfl fun n _ => ?_) (mul_comm _ _)) (congrArg₂ (· * ·) (Finset.sum_congr rfl fun n _ => ?_) (mul_comm _ _)) <;>
    exact congrArg₂ (· * ·) (ldUc_apply _ _ _ _ _ _ _ _ (by omega) hc _ _ _ _) (ldYc_apply _ _ _ _ _ _ _ _ (by omega) hc _ _ _ _)

include hL hcov

/-- A stored block of the first batch's input gradient is its function there. -/
theorem u_st0 (ch R : ℕ) (x : S1x1x64x256.Idx) (hc : ch < 4 := by decide) (hR : R = 64 * ch := by rfl)
    (i0 : ∀ a, (![0, ch, 0, 0] : Fin 4 → ℕ) a + S1x1x64x256.size a ≤ S2x4x64x256.size a := by decide)
    (j0 : ∀ a, (![0, 0] : Fin 2 → ℕ) a + S768x1024.size a ≤ S768x1024.size a := by decide) (j1 : ∀ a, (![0, 0] : Fin 2 → ℕ) a + S1024x256.size a ≤ S1024x256.size a := by decide)
    (k0 : ∀ a, k0_off1 i (BitVec.ofNat 32 ch) a + S1x1.size a ≤ S2x864.size a := by exact k0_off1_inb i ⟨_, by decide⟩) (k1 : ∀ a, k0_off3 i (BitVec.ofNat 32 ch) a + S1x1.size a ≤ S1x864.size a := by exact k0_off3_inb i ⟨_, by decide⟩)
    (n0 n1 : 0 < S1x1.numel := by decide) (h : S768x256.Slices ![R, 0] S64x256 := by decide)
    (inbO : ∀ a, (![0, ch, 0, 0] : Fin 4 → ℕ) a + S1x1x64x256.size a ≤ S2x4x64x256.size a := by decide) :
    uSt (xMat arg8 harg8 arg18 L x7 j0 j1) (ldYc arg5 harg5 x4 0 ch i0) (ldS1 i arg2 harg2 x1 ch k0 n0) (ldS3 i arg3 harg3 x2 ch k1 n1) R h x
      = UG (tab x6 x7 x8 x9 x10 x11) (sg x3 x4 x5) w (scl i x1) (skp i x2) ((Rect.unit (s := S2x4x64x256) ![0, ch, 0, 0] S1x1x64x256.size inbO).emb x) := by
  idx_vars x
  rw [UG_at _ _ _ _ _ _ _ _ _ _ _ _ (by omega) hc, uSt_apply _ _ _ _ _ _ _ _ _ _ _ fun _ => xMat_apply arg8 harg8 arg18 L x6 x7 x8 x9 x10 x11 _ _ hL hcov 0 ch R _ _ _ _ _ hc (by omega),
    ldS1_eq _ _ _ _ _ _ _ hc, ldS3_eq _ _ _ _ _ _ _ hc, ldYc_apply _ _ x3 x4 x5 _ _ _ (by omega) hc]
  rfl

/-- A stored block of the second batch's input gradient is its function there. -/
theorem u_st1 (ch R : ℕ) (x : S1x1x64x256.Idx) (hc : ch < 4 := by decide) (hR : R = 256 + 64 * ch := by rfl)
    (i0 : ∀ a, (![1, ch, 0, 0] : Fin 4 → ℕ) a + S1x1x64x256.size a ≤ S2x4x64x256.size a := by decide)
    (j0 : ∀ a, (![0, 0] : Fin 2 → ℕ) a + S768x1024.size a ≤ S768x1024.size a := by decide) (j1 : ∀ a, (![0, 0] : Fin 2 → ℕ) a + S1024x256.size a ≤ S1024x256.size a := by decide)
    (k0 : ∀ a, k0_off2 i (BitVec.ofNat 32 ch) a + S1x1.size a ≤ S2x864.size a := by exact k0_off2_inb i ⟨_, by decide⟩) (k1 : ∀ a, k0_off3 i (BitVec.ofNat 32 ch) a + S1x1.size a ≤ S1x864.size a := by exact k0_off3_inb i ⟨_, by decide⟩)
    (n0 n1 : 0 < S1x1.numel := by decide) (h : S768x256.Slices ![R, 0] S64x256 := by decide)
    (inbO : ∀ a, (![1, ch, 0, 0] : Fin 4 → ℕ) a + S1x1x64x256.size a ≤ S2x4x64x256.size a := by decide) :
    uSt (xMat arg8 harg8 arg18 L x7 j0 j1) (ldYc arg5 harg5 x4 1 ch i0) (ldS2 i arg2 harg2 x1 ch k0 n0) (ldS3 i arg3 harg3 x2 ch k1 n1) R h x
      = UG (tab x6 x7 x8 x9 x10 x11) (sg x3 x4 x5) w (scl i x1) (skp i x2) ((Rect.unit (s := S2x4x64x256) ![1, ch, 0, 0] S1x1x64x256.size inbO).emb x) := by
  idx_vars x
  rw [UG_at _ _ _ _ _ _ _ _ _ _ _ _ (by omega) hc, uSt_apply _ _ _ _ _ _ _ _ _ _ _ fun _ => xMat_apply arg8 harg8 arg18 L x6 x7 x8 x9 x10 x11 _ _ hL hcov 1 ch R _ _ _ _ _ hc (by omega),
    ldS2_eq _ _ _ _ _ _ _ hc, ldS3_eq _ _ _ _ _ _ _ hc, ldYc_apply _ _ x3 x4 x5 _ _ _ (by omega) hc]
  rfl

/-- A stored block of the filter gradient is its function there. -/
theorem k_st (ch R : ℕ) (x : S1x64x256.Idx) (hc : ch < 4 := by decide) (hR : R = 512 + 64 * ch := by rfl)
    (j0 : ∀ a, (![0, 0] : Fin 2 → ℕ) a + S768x1024.size a ≤ S768x1024.size a := by decide) (j1 : ∀ a, (![0, 0] : Fin 2 → ℕ) a + S1024x256.size a ≤ S1024x256.size a := by decide)
    (h : S768x256.Slices ![R, 0] S64x256 := by decide)
    (inbO : ∀ a, (![ch, 0, 0] : Fin 3 → ℕ) a + S1x64x256.size a ≤ S4x64x256.size a := by decide) :
    kSt (xMat arg8 harg8 arg18 L x7 j0 j1) R h x
      = KG (tab x6 x7 x8 x9 x10 x11) (sg x3 x4 x5) w ((Rect.unit (s := S4x64x256) ![ch, 0, 0] S1x64x256.size inbO).emb x) := by
  idx_vars x
  rw [KG_at _ _ _ _ _ _ _ _ hc]
  exact kSt_apply _ _ _ _ _ _ _ fun _ => xMat_apply arg8 harg8 arg18 L x6 x7 x8 x9 x10 x11 _ _ hL hcov 2 ch R _ _ _ _ _ hc (by omega)
end

end Cert.KernelIdeal.Val

end
-- ==== Proof.KBlk.lean ====
module

public import proofs.«01_k».proof.Proof.KOut
public import proofs.«01_k».proof.Proof.Gen.KernelIdeal.Frame

@[expose] public section

set_option maxRecDepth 16384

noncomputable section

namespace Cert.KernelIdeal.Val

open Cert.KernelIdeal Cert.KernelIdeal.Gen Idealize.ShloMosaic Idealize.ShloMosaic.TcCoe Idealize.SL.Sem Cert.Dft

section
variable (c : Dev nD) (i : grid0.Coords) (arg1 : Memref sig .tc .smem S2x864 .f32) (harg1 : arg1.IsWhole) (arg2 : Memref sig .tc .smem S2x864 .f32) (harg2 : arg2.IsWhole) (arg3 : Memref sig .tc .smem S1x864 .f32) (harg3 : arg3.IsWhole) (arg4 : Memref sig .tc .vmem S2x4x64x256 .fp8e4m3) (harg4 : arg4.IsWhole) (arg5 : Memref sig .tc .vmem S2x4x64x256 .fp8e5m2) (harg5 : arg5.IsWhole) (arg6 : Memref sig .tc .vmem S4x64x256 .bf16) (harg6 : arg6.IsWhole) (arg7 : Memref sig .tc .vmem S256x1024 .fp8e4m3) (harg7 : arg7.IsWhole) (arg8 : Memref sig .tc .vmem S1024x256 .fp8e4m3) (harg8 : arg8.IsWhole) (arg9 : Memref sig .tc .vmem S64x64 .fp8e4m3) (harg9 : arg9.IsWhole) (arg10 : Memref sig .tc .vmem S64x64 .fp8e4m3) (harg10 : arg10.IsWhole) (arg11 : Memref sig .tc .vmem S64x512 .f32) (harg11 : arg11.IsWhole) (arg12 : Memref sig .tc .vmem S64x512 .f32) (harg12 : arg12.IsWhole) (arg13 : Memref sig .tc .vmem S2x4x64x256 .bf16) (harg13 : arg13.IsWhole) (arg14 : Memref sig .tc .vmem S4x64x256 .f32) (harg14 : arg14.IsWhole) (arg15 : Memref sig .tc .vmem S4x1x128 .f32) (harg15 : arg15.IsWhole) (arg16 : Memref sig .tc .vmem S5x4x2x128x256 .bf16) (harg16 : arg16.IsWhole) (arg17 : Memref sig .tc .vmem S3x4x2x128x256 .bf16) (harg17 : arg17.IsWhole) (arg18 : Memref sig .tc .vmem S768x1024 .bf16) (harg18 : arg18.IsWhole)
    (x0 : Vec Ideal S2x864 .f32) (x1 : Vec Ideal S2x864 .f32) (x2 : Vec Ideal S1x864 .f32) (x3 : Vec Ideal S2x4x64x256 .fp8e4m3) (x4 : Vec Ideal S2x4x64x256 .fp8e5m2) (x5 : Vec Ideal S4x64x256 .bf16) (x6 : Vec Ideal S256x1024 .fp8e4m3) (x7 : Vec Ideal S1024x256 .fp8e4m3) (x8 : Vec Ideal S64x64 .fp8e4m3) (x9 : Vec Ideal S64x64 .fp8e4m3) (x10 : Vec Ideal S64x512 .f32) (x11 : Vec Ideal S64x512 .f32)

/-- Every store into the input gradient's block leaves its function there. -/
theorem piecesU : View.PiecesOf (UG (tab x6 x7 x8 x9 x10 x11) (sg x3 x4 x5) (wt i x0 x1) (scl i x1) (skp i x2))
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).1 := by
  have hL := pieces2 c i arg1 harg1 arg2 harg2 arg4 harg4 arg5 harg5 arg6 harg6 arg7 harg7 arg9 harg9 arg10 harg10 arg11 harg11 arg12 harg12 arg16 arg17 x0 x1 x3 x4 x5 x6 x7 x8 x9 x10 x11
  have hcov := cover2 c i arg1 harg1 arg2 harg2 arg4 harg4 arg5 harg5 arg6 harg6 arg7 harg7 arg9 harg9 arg10 harg10 arg11 harg11 arg12 harg12 arg16 arg17 x0 x1 x3 x4 x5 x6 x8 x9 x10 x11
  unfold kernelRun0_A
  iterate 4 refine And.intro (fun x => u_st1 i arg2 harg2 arg3 harg3 arg5 harg5 x1 x2 x3 x4 x5 arg8 harg8 arg18 _ x6 x7 x8 x9 x10 x11 _ hL hcov _ _ x) (And.intro (fun x => u_st0 i arg2 harg2 arg3 harg3 arg5 harg5 x1 x2 x3 x4 x5 arg8 harg8 arg18 _ x6 x7 x8 x9 x10 x11 _ hL hcov _ _ x) ?_)
  exact trivial

/-- Every store into the filter gradient's block leaves its function there. -/
theorem piecesK : View.PiecesOf (KG (tab x6 x7 x8 x9 x10 x11) (sg x3 x4 x5) (wt i x0 x1))
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.1 := by
  have hL := pieces2 c i arg1 harg1 arg2 harg2 arg4 harg4 arg5 harg5 arg6 harg6 arg7 harg7 arg9 harg9 arg10 harg10 arg11 harg11 arg12 harg12 arg16 arg17 x0 x1 x3 x4 x5 x6 x7 x8 x9 x10 x11
  have hcov := cover2 c i arg1 harg1 arg2 harg2 arg4 harg4 arg5 harg5 arg6 harg6 arg7 harg7 arg9 harg9 arg10 harg10 arg11 harg11 arg12 harg12 arg16 arg17 x0 x1 x3 x4 x5 x6 x8 x9 x10 x11
  unfold kernelRun0_A
  iterate 4 refine And.intro (fun x => k_st x3 x4 x5 arg8 harg8 arg18 _ x6 x7 x8 x9 x10 x11 _ hL hcov _ _ x) ?_
  exact trivial

/-- Every store into the skip gradient's block leaves its function there. -/
theorem piecesQ : View.PiecesOf (QG (sg x3 x4 x5) (wt i x0 x1))
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).2.2.1 := by
  unfold kernelRun0_A
  iterate 4 refine And.intro (fun x => q_st i arg1 harg1 arg2 harg2 arg4 harg4 arg5 harg5 x0 x1 x3 x4 x5 _ x) ?_
  exact trivial

/-- What the body leaves in the input gradient's block. -/
theorem out_u : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = UG (tab x6 x7 x8 x9 x10 x11) (sg x3 x4 x5) (wt i x0 x1) (scl i x1) (skp i x2) := by
  unfold out0_A_12
  rw [View.read_writes_junk_eq_canon]
  exact funext fun y => View.canon_apply_of_pieces _ _ (piecesU c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).mem y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 y)

/-- What the body leaves in the filter gradient's block. -/
theorem out_k : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = KG (tab x6 x7 x8 x9 x10 x11) (sg x3 x4 x5) (wt i x0 x1) := by
  unfold out0_A_13
  rw [View.read_writes_junk_eq_canon]
  exact funext fun y => View.canon_apply_of_pieces _ _ (piecesK c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).mem y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 y)

/-- What the body leaves in the skip gradient's block. -/
theorem out_q : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 = QG (sg x3 x4 x5) (wt i x0 x1) := by
  unfold out0_A_14
  rw [View.read_writes_junk_eq_canon]
  exact funext fun y => View.canon_apply_of_pieces _ _ (piecesQ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11).mem y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 y)

end

end Cert.KernelIdeal.Val

end
-- ==== Proof.Spec.lean ====
/- What the kernel and the reference leave at one channel, over the extended reals: no program is imported here. -/
module

public import proofs.«01_k».proof.Proof.Dft

@[expose] public section

noncomputable section

namespace Cert.Dft

open Idealize.ShloMosaic

/-- A byte read as an fp8 number of four exponent bits. -/
def dec4 (b : BitVec 8) : EReal := FloatOps.ofBits (F := Ideal) .fp8e4m3 b

/-- A byte read as an fp8 number of five exponent bits. -/
def dec5 (b : BitVec 8) : EReal := FloatOps.ofBits (F := Ideal) .fp8e5m2 b

/-- The data of one channel: the two batches of the input `u` and of the output gradient `y`, the filter `k` (column `n`,
    row `m` each), the scales `us`, `ds` and the skip weight `d`. -/
structure Chan where
  u : Fin 2 → Fin 64 → Fin 256 → EReal
  y : Fin 2 → Fin 64 → Fin 256 → EReal
  k : Fin 64 → Fin 256 → EReal
  us : Fin 2 → EReal
  ds : Fin 2 → EReal
  d : EReal

/-- The tables, from the argument arrays: rows and columns of the transforms. -/
def tabOf (a6 a7 : Fin 512 → Fin 512 → BitVec 8) (a8 a9 : Fin 64 → Fin 64 → BitVec 8) (a10 a11 : Fin 512 → Fin 64 → EReal) : Tab where
  fr m J := dec4 (a6 J ⟨m, by omega⟩)
  fi m J := dec4 (a7 J ⟨m, by omega⟩)
  ir J m := dec4 (a6 ⟨m, by omega⟩ J)
  ii J m := dec4 (a7 ⟨m, by omega⟩ J)
  gr k n := dec4 (a8 k n)
  gi k n := dec4 (a9 k n)
  tr n J := a10 J n
  ti n J := a11 J n

/-- The channel `h` of the argument arrays: time index `m * 64 + n` at column `n`, row `m`. -/
def chanOf (a0 a2 : Fin 2 → Fin 16384 → Fin 864 → BitVec 8) (a1 a3 : Fin 2 → Fin 864 → EReal) (a4 : Fin 16384 → Fin 864 → EReal)
    (a5 : Fin 864 → EReal) (h : Fin 864) : Chan where
  u b n m := dec4 (a0 b ⟨m * 64 + n, by omega⟩ h)
  y b n m := dec5 (a2 b ⟨m * 64 + n, by omega⟩ h)
  k n m := a4 ⟨m * 64 + n, by omega⟩ h
  us b := a1 b h
  ds b := a3 b h
  d := a5 h

/-- The kernel's input gradient at one channel: `e` is the constant the inverse transform is scaled by. -/
def kU (e : EReal) (T : Tab) (q : Chan) (b : Fin 2) (n : Fin 64) (m : Fin 256) : EReal :=
  inv T (zRe T q.k (q.y b)) (zIm T q.k (q.y b)) n m * (q.ds b * e) + q.y b n m * (q.d * q.ds b)

/-- The kernel's filter gradient at one channel. -/
def kK (e : EReal) (T : Tab) (q : Chan) (n : Fin 64) (m : Fin 256) : EReal :=
  inv T (fun J k => zRe T (q.u 0) (q.y 0) J k * (q.us 0 * q.ds 0) + zRe T (q.u 1) (q.y 1) J k * (q.us 1 * q.ds 1))
    (fun J k => zIm T (q.u 0) (q.y 0) J k * (q.us 0 * q.ds 0) + zIm T (q.u 1) (q.y 1) J k * (q.us 1 * q.ds 1)) n m * e

/-- The kernel's skip gradient at one channel. -/
def kQ (q : Chan) : EReal :=
  ∑ m : Fin 256, ((∑ n : Fin 64, q.u 0 n m * q.y 0 n m) * (q.us 0 * q.ds 0) + (∑ n : Fin 64, q.u 1 n m * q.y 1 n m) * (q.us 1 * q.ds 1))

end Cert.Dft

end
-- ==== Proof.KRun.lean ====
module

public import proofs.«01_k».proof.Proof.KBlk
public import proofs.«01_k».proof.Proof.Spec
public import proofs.«01_k».proof.Proof.Gen.KernelIdeal.Value
public import Idealize.ShloMosaic.Lib.Pipeline.ValueKit.Point

@[expose] public section

set_option maxRecDepth 16384

noncomputable section

namespace Cert.KernelIdeal.Val

open Cert.KernelIdeal Cert.KernelIdeal.Gen Idealize.ShloMosaic Idealize.ShloMosaic.TcCoe Idealize.SL.Sem Cert.Dft
open Idealize.ShloMosaic.Pipeline (Dat)

variable (m : (ℓ : Loc nD τ sig) → Buf (Elt Ideal) ℓ)

/-- The tables of the program's argument arrays. -/
def tabM (c : Dev nD) : Tab :=
  tabOf (fun i j => m ((c : Thread nD τ).loc main_arg6) (ix2 i j)) (fun i j => m ((c : Thread nD τ).loc main_arg7) (ix2 i j))
    (fun i j => m ((c : Thread nD τ).loc main_arg8) (ix2 i j)) (fun i j => m ((c : Thread nD τ).loc main_arg9) (ix2 i j))
    (fun i j => m ((c : Thread nD τ).loc main_arg10) (ix2 i j)) (fun i j => m ((c : Thread nD τ).loc main_arg11) (ix2 i j))

/-- Channel `h` of the program's argument arrays. -/
def chanM (c : Dev nD) (h : Fin 864) : Chan :=
  chanOf (fun i j k => m ((c : Thread nD τ).loc main_arg0) (ix3 i j k)) (fun i j k => m ((c : Thread nD τ).loc main_arg2) (ix3 i j k))
    (fun i j => m ((c : Thread nD τ).loc main_arg1) (ix2 i j)) (fun i j => m ((c : Thread nD τ).loc main_arg3) (ix2 i j))
    (fun i j => m ((c : Thread nD τ).loc main_arg4) (ix2 i j)) (fun i => m ((c : Thread nD τ).loc main_arg5) (ix1 i)) h

/-- Channel `ch` of the block of point `t`. -/
def chn (t : Fin cfg0.N) (ch : Fin 4) : Fin 864 := ⟨4 * t.val + ch, by have : t.val < 216 := t.2; omega⟩

/-- The grid's one coordinate is the point's number. -/
theorem coords_val : ∀ t : Fin cfg0.N, (grid0.coords t 0).val = t.val := (by decide +kernel : ∀ t : Fin grid0.N, (grid0.coords t 0).val = t.val)

/-- The block index of this window at every grid point. -/
theorem idx0 : ∀ t : Fin cfg0.N, win0_0.index t = ![0, 0] := (by decide +kernel : ∀ t : Fin grid0.N, _)
/-- The block index of this window at every grid point. -/
theorem idx1 : ∀ t : Fin cfg0.N, win0_1.index t = ![0, 0] := (by decide +kernel : ∀ t : Fin grid0.N, _)
/-- The block index of this window at every grid point. -/
theorem idx2 : ∀ t : Fin cfg0.N, win0_2.index t = ![0, 0] := (by decide +kernel : ∀ t : Fin grid0.N, _)
/-- The block index of this window at every grid point. -/
theorem idx6 : ∀ t : Fin cfg0.N, win0_6.index t = ![0, 0] := (by decide +kernel : ∀ t : Fin grid0.N, _)
/-- The block index of this window at every grid point. -/
theorem idx7 : ∀ t : Fin cfg0.N, win0_7.index t = ![0, 0] := (by decide +kernel : ∀ t : Fin grid0.N, _)
/-- The block index of this window at every grid point. -/
theorem idx8 : ∀ t : Fin cfg0.N, win0_8.index t = ![0, 0] := (by decide +kernel : ∀ t : Fin grid0.N, _)
/-- The block index of this window at every grid point. -/
theorem idx9 : ∀ t : Fin cfg0.N, win0_9.index t = ![0, 0] := (by decide +kernel : ∀ t : Fin grid0.N, _)
/-- The block index of this window at every grid point. -/
theorem idx10 : ∀ t : Fin cfg0.N, win0_10.index t = ![0, 0] := (by decide +kernel : ∀ t : Fin grid0.N, _)
/-- The block index of this window at every grid point. -/
theorem idx11 : ∀ t : Fin cfg0.N, win0_11.index t = ![0, 0] := (by decide +kernel : ∀ t : Fin grid0.N, _)
/-- The block index of this window at every grid point. -/
theorem idx12 : ∀ t : Fin cfg0.N, win0_12.index t = ![0, t.val, 0, 0] := (by decide +kernel : ∀ t : Fin grid0.N, _)
/-- The block index of this window at every grid point. -/
theorem idx13 : ∀ t : Fin cfg0.N, win0_13.index t = ![t.val, 0, 0] := (by decide +kernel : ∀ t : Fin grid0.N, _)
/-- The block index of this window at every grid point. -/
theorem idx14 : ∀ t : Fin cfg0.N, win0_14.index t = ![t.val, 0, 0] := (by decide +kernel : ∀ t : Fin grid0.N, _)
/-- The block index of this window at every grid point. -/
theorem idx3 : ∀ t : Fin cfg0.N, win0_3.index t = ![0, t.val, 0, 0] := (by decide +kernel : ∀ t : Fin grid0.N, _)
/-- The block index of this window at every grid point. -/
theorem idx4 : ∀ t : Fin cfg0.N, win0_4.index t = ![0, t.val, 0, 0] := (by decide +kernel : ∀ t : Fin grid0.N, _)
/-- The block index of this window at every grid point. -/
theorem idx5 : ∀ t : Fin cfg0.N, win0_5.index t = ![t.val, 0, 0] := (by decide +kernel : ∀ t : Fin grid0.N, _)

/-- The transposed input the kernel is given is the channel's input. -/
theorem V_u (c : Dev nD) (b : Fin 2) (h : Fin 864) (n : Fin 64) (k : Fin 256) :
    V m c main_v8 (ix4 b h n k) = (chanM m c h).u b n k := by
  entry_read
  pointwise
  rfl

/-- The transposed output gradient the kernel is given is the channel's. -/
theorem V_y (c : Dev nD) (b : Fin 2) (h : Fin 864) (n : Fin 64) (k : Fin 256) :
    V m c main_v11 (ix4 b h n k) = (chanM m c h).y b n k := by
  entry_read
  pointwise
  rfl

/-- The transposed filter the kernel is given is the channel's. -/
theorem V_k (c : Dev nD) (h : Fin 864) (n : Fin 64) (k : Fin 256) : V m c main_v15 (ix3 h n k) = (chanM m c h).k n k := by
  entry_read
  pointwise
  rfl

/-- The skip weights the kernel is given are the channels'. -/
theorem V_d (c : Dev nD) (h : Fin 864) : V m c main_v26 (ix2 0 h) = (chanM m c h).d := by
  entry_read
  pointwise
  rfl

/-- The first stage's table: real parts, then imaginary parts, side by side. -/
theorem V_f (c : Dev nD) (k : Fin 256) (j : Fin (512 + 512)) :
    V m c main_v20 (ix2 k j) = if h : (j : ℕ) < 512 then (tabM m c).fr k ⟨j, h⟩ else (tabM m c).fi k ⟨j - 512, by omega⟩ := by
  entry_read
  pointwise
  rfl

/-- The last stage's table: real parts, then imaginary parts, one above the other. -/
theorem V_i (c : Dev nD) (j : Fin (512 + 512)) (k : Fin 256) :
    V m c main_v25 (ix2 j k) = if h : (j : ℕ) < 512 then (tabM m c).ir ⟨j, h⟩ k else (tabM m c).ii ⟨j - 512, by omega⟩ k := by
  entry_read
  pointwise
  rfl

/-- The second stage's table, real part. -/
theorem V_gr (c : Dev nD) (k n : Fin 64) : V m c main_v4 (ix2 k n) = (tabM m c).gr k n := by
  entry_read
  pointwise
  rfl

/-- The second stage's table, imaginary part. -/
theorem V_gi (c : Dev nD) (k n : Fin 64) : V m c main_v5 (ix2 k n) = (tabM m c).gi k n := by
  entry_read
  pointwise
  rfl

/-- The transposed twiddle factors, real part. -/
theorem V_tr (c : Dev nD) (n : Fin 64) (J : Fin 512) : V m c main_v27 (ix2 n J) = (tabM m c).tr n J := by
  entry_read
  pointwise
  rfl

/-- The transposed twiddle factors, imaginary part. -/
theorem V_ti (c : Dev nD) (n : Fin 64) (J : Fin 512) : V m c main_v28 (ix2 n J) = (tabM m c).ti n J := by
  entry_read
  pointwise
  rfl

/-! The input blocks of point `t`. -/

/-- The input's scale that point `t` reads for its channel `ch`. -/
theorem blk_us (c : Dev nD) (t : Fin cfg0.N) (b : Fin 2) (ch : Fin 4) : scl (grid0.coords t) (iblk m c 0 t) b ch = (chanM m c (chn t ch)).us b := by
  unfold scl
  blk_simp [iblk, V_main_arg1]
  refine congrArg (m ((c : Thread nD τ).loc main_arg1)) ?_
  blk_ext [idx0 t, coords_val t, chn]

/-- The output gradient's scale that point `t` reads for its channel `ch`. -/
theorem blk_ds (c : Dev nD) (t : Fin cfg0.N) (b : Fin 2) (ch : Fin 4) : scl (grid0.coords t) (iblk m c 1 t) b ch = (chanM m c (chn t ch)).ds b := by
  unfold scl
  blk_simp [iblk, V_main_arg3]
  refine congrArg (m ((c : Thread nD τ).loc main_arg3)) ?_
  blk_ext [idx1 t, coords_val t, chn]

/-- The skip weight that point `t` reads for its channel `ch`. -/
theorem blk_d (c : Dev nD) (t : Fin cfg0.N) (ch : Fin 4) : skp (grid0.coords t) (iblk m c 2 t) ch = (chanM m c (chn t ch)).d := by
  unfold skp
  blk_simp [iblk]
  refine Eq.trans ?_ (V_d m c (chn t ch))
  blk_ext [idx2 t, coords_val t, chn]

/-- The input block of point `t`. -/
theorem blk_u (c : Dev nD) (t : Fin cfg0.N) (b : Fin 2) (ch : Fin 4) (n : Fin 64) (k : Fin 256) :
    iblk m c 3 t (ix4 b ch n k) = (chanM m c (chn t ch)).u b n k := by
  blk_simp [iblk]
  refine Eq.trans ?_ (V_u m c b (chn t ch) n k)
  blk_ext [idx3 t, chn]

/-- The output gradient block of point `t`. -/
theorem blk_y (c : Dev nD) (t : Fin cfg0.N) (b : Fin 2) (ch : Fin 4) (n : Fin 64) (k : Fin 256) :
    iblk m c 4 t (ix4 b ch n k) = (chanM m c (chn t ch)).y b n k := by
  blk_simp [iblk]
  refine Eq.trans ?_ (V_y m c b (chn t ch) n k)
  blk_ext [idx4 t, chn]

/-- The filter block of point `t`. -/
theorem blk_k (c : Dev nD) (t : Fin cfg0.N) (ch : Fin 4) (n : Fin 64) (k : Fin 256) :
    iblk m c 5 t (ix3 ch n k) = (chanM m c (chn t ch)).k n k := by
  blk_simp [iblk]
  refine Eq.trans ?_ (V_k m c (chn t ch) n k)
  blk_ext [idx5 t, chn]

/-- Every point reads the whole table of the first stage. -/
theorem blk_f (c : Dev nD) (t : Fin cfg0.N) (k : Fin 256) (j : Fin (512 + 512)) :
    iblk m c 6 t (ix2 k j) = if h : (j : ℕ) < 512 then (tabM m c).fr k ⟨j, h⟩ else (tabM m c).fi k ⟨j - 512, by omega⟩ := by
  blk_simp [iblk]
  refine Eq.trans (congrArg (V m c main_v20) (?_ : _ = ix2 k j)) (V_f m c k j)
  blk_ext [idx6 t]

/-- Every point reads the whole table of the last stage. -/
theorem blk_i (c : Dev nD) (t : Fin cfg0.N) (j : Fin (512 + 512)) (k : Fin 256) :
    iblk m c 7 t (ix2 j k) = if h : (j : ℕ) < 512 then (tabM m c).ir ⟨j, h⟩ k else (tabM m c).ii ⟨j - 512, by omega⟩ k := by
  blk_simp [iblk]
  refine Eq.trans (congrArg (V m c main_v25) (?_ : _ = ix2 j k)) (V_i m c j k)
  blk_ext [idx7 t]

/-- Every point reads the whole table of the second stage, real part. -/
theorem blk_gr (c : Dev nD) (t : Fin cfg0.N) (k : Fin 64) (n : Fin 64) : iblk m c 8 t (ix2 k n) = (tabM m c).gr k n := by
  blk_simp [iblk]
  refine Eq.trans (congrArg (V m c main_v4) (?_ : _ = ix2 k n)) (V_gr m c k n)
  blk_ext [idx8 t]

/-- Every point reads the whole table of the second stage, imaginary part. -/
theorem blk_gi (c : Dev nD) (t : Fin cfg0.N) (k : Fin 64) (n : Fin 64) : iblk m c 9 t (ix2 k n) = (tabM m c).gi k n := by
  blk_simp [iblk]
  refine Eq.trans (congrArg (V m c main_v5) (?_ : _ = ix2 k n)) (V_gi m c k n)
  blk_ext [idx9 t]

/-- Every point reads all twiddle factors, real part. -/
theorem blk_tr (c : Dev nD) (t : Fin cfg0.N) (k : Fin 64) (n : Fin 512) : iblk m c 10 t (ix2 k n) = (tabM m c).tr k n := by
  blk_simp [iblk]
  refine Eq.trans (congrArg (V m c main_v27) (?_ : _ = ix2 k n)) (V_tr m c k n)
  blk_ext [idx10 t]

/-- Every point reads all twiddle factors, imaginary part. -/
theorem blk_ti (c : Dev nD) (t : Fin cfg0.N) (k : Fin 64) (n : Fin 512) : iblk m c 11 t (ix2 k n) = (tabM m c).ti k n := by
  blk_simp [iblk]
  refine Eq.trans (congrArg (V m c main_v28) (?_ : _ = ix2 k n)) (V_ti m c k n)
  blk_ext [idx11 t]

/-- The tables a body reads from its blocks are `T` when the blocks hold `T`'s entries. -/
theorem tab_eq (x6 : Vec Ideal S256x1024 .fp8e4m3) (x7 : Vec Ideal S1024x256 .fp8e4m3) (x8 x9 : Vec Ideal S64x64 .fp8e4m3)
    (x10 x11 : Vec Ideal S64x512 .f32) (T : Tab)
    (hf : ∀ (k : Fin 256) (j : Fin 1024), x6 (ix2 k j) = if h : (j : ℕ) < 512 then T.fr k ⟨j, h⟩ else T.fi k ⟨j - 512, by omega⟩)
    (hi : ∀ (j : Fin 1024) (k : Fin 256), x7 (ix2 j k) = if h : (j : ℕ) < 512 then T.ir ⟨j, h⟩ k else T.ii ⟨j - 512, by omega⟩ k)
    (hgr : ∀ k n : Fin 64, x8 (ix2 k n) = T.gr k n) (hgi : ∀ k n : Fin 64, x9 (ix2 k n) = T.gi k n)
    (htr : ∀ (n : Fin 64) (J : Fin 512), x10 (ix2 n J) = T.tr n J) (hti : ∀ (n : Fin 64) (J : Fin 512), x11 (ix2 n J) = T.ti n J) :
    tab x6 x7 x8 x9 x10 x11 = T := by
  refine Tab.ext ?_ ?_ ?_ ?_ ?_ ?_ ?_ ?_ <;> funext a b
  · exact (hf a _).trans (dif_pos b.2)
  · exact (hf a _).trans ((dif_neg (Nat.not_lt.mpr (Nat.le_add_right 512 b))).trans (congrArg (T.fi a) (Fin.ext (Nat.add_sub_cancel_left ..))))
  · exact (hi _ b).trans (dif_pos a.2)
  · exact (hi _ b).trans ((dif_neg (Nat.not_lt.mpr (Nat.le_add_right 512 a))).trans (congrArg (fun j => T.ii j b) (Fin.ext (Nat.add_sub_cancel_left ..))))
  · exact hgr a b
  · exact hgi a b
  · exact htr a b
  · exact hti a b

/-- The tables of every point are the tables of the argument arrays. -/
theorem blk_tab (c : Dev nD) (t : Fin cfg0.N) :
    tab (iblk m c 6 t) (iblk m c 7 t) (iblk m c 8 t) (iblk m c 9 t) (iblk m c 10 t) (iblk m c 11 t) = tabM m c :=
  tab_eq _ _ _ _ _ _ _ (blk_f m c t) (blk_i m c t) (blk_gr m c t) (blk_gi m c t) (blk_tr m c t) (blk_ti m c t)

/-- The signals of point `t`, channel `ch`. -/
theorem blk_sg (c : Dev nD) (t : Fin cfg0.N) (ch : Fin 4) :
    (∀ b : Fin 2, sg (iblk m c 3 t) (iblk m c 4 t) (iblk m c 5 t) b ch = (chanM m c (chn t ch)).u b) ∧
    (∀ b : Fin 2, sg (iblk m c 3 t) (iblk m c 4 t) (iblk m c 5 t) (b + 2) ch = (chanM m c (chn t ch)).y b) ∧
    sg (iblk m c 3 t) (iblk m c 4 t) (iblk m c 5 t) 4 ch = (chanM m c (chn t ch)).k := by
  refine ⟨fun b => ?_, fun b => ?_, ?_⟩ <;> funext n k
  · exact (dif_pos b.2).trans (blk_u m c t b ch n k)
  · exact (dif_neg (Nat.not_lt.mpr (Nat.le_add_left 2 b))).trans ((dif_pos b.2).trans (blk_y m c t b ch n k))
  · exact blk_k m c t ch n k

/-- The weights of point `t`, channel `ch`. -/
theorem blk_wt (c : Dev nD) (t : Fin cfg0.N) (ch : Fin 4) (b : ℕ) :
    wt (grid0.coords t) (iblk m c 0 t) (iblk m c 1 t) b ch = (chanM m c (chn t ch)).us (Fin.ofNat 2 b) * (chanM m c (chn t ch)).ds (Fin.ofNat 2 b) :=
  congrArg₂ (· * ·) (blk_us m c t _ ch) (blk_ds m c t _ ch)

section
variable (T : Tab) (g : ℕ → Fin 4 → Fin 64 → Fin 256 → EReal) (w : ℕ → Fin 4 → EReal)

/-- The inverse transform of a batch's product spectrum. -/
theorem xf_b (o : ℕ) (h : o < 2) (ch : Fin 4) (n : Fin 64) (k : Fin 256) :
    xf T g w o ch n k = inv T (zRe T (g 4 ch) (g (o + 2) ch)) (zIm T (g 4 ch) (g (o + 2) ch)) n k := by
  unfold xf
  rw [show zfRe T g w o ch = zRe T (g 4 ch) (g (o + 2) ch) from funext fun J => funext fun k => if_pos h,
    show zfIm T g w o ch = zIm T (g 4 ch) (g (o + 2) ch) from funext fun J => funext fun k => if_pos h]

/-- The inverse transform of the weighted batch sum. -/
theorem xf_2 (ch : Fin 4) (n : Fin 64) (k : Fin 256) :
    xf T g w 2 ch n k = inv T (fun J k => zRe T (g 0 ch) (g 2 ch) J k * w 0 ch + zRe T (g 1 ch) (g 3 ch) J k * w 1 ch)
      (fun J k => zIm T (g 0 ch) (g 2 ch) J k * w 0 ch + zIm T (g 1 ch) (g 3 ch) J k * w 1 ch) n k := by
  unfold xf
  rw [show zfRe T g w 2 ch = _ from funext fun J => funext fun k => if_neg (by decide),
    show zfIm T g w 2 ch = _ from funext fun J => funext fun k => if_neg (by decide)]
end

/-- What point `t` leaves in the input gradient's block. -/
theorem outs_u (c : Dev nD) (t : Fin cfg0.N) (y : S2x4x64x256.Idx) :
    (outsAt0 m c t).1 y = kU invN (tabM m c) (chanM m c (chn t (y 1))) (y 0) (y 2) (y 3) := by
  unfold outsAt0
  rw [out_u, blk_tab]
  obtain ⟨_, hy, hk⟩ := blk_sg m c t (y 1)
  refine congrArg₂ (fun a b : EReal => a + b) (congrArg₂ (fun a b : EReal => a * b) ((xf_b _ _ _ (y 0) (y 0).2 (y 1) (y 2) (y 3)).trans ?_)
    (congrArg (fun a : EReal => a * invN) (blk_ds m c t (y 0) (y 1))))
    (congrArg₂ (fun a b : EReal => a * b) (congrFun (congrFun (hy (y 0)) (y 2)) (y 3)) (congrArg₂ (fun a b : EReal => a * b) (blk_d m c t (y 1)) (blk_ds m c t (y 0) (y 1))))
  rw [hk, hy (y 0)]

/-- What point `t` leaves in the filter gradient's block. -/
theorem outs_k (c : Dev nD) (t : Fin cfg0.N) (y : S4x64x256.Idx) :
    (outsAt0 m c t).2.1 y = kK invN (tabM m c) (chanM m c (chn t (y 0))) (y 1) (y 2) := by
  unfold outsAt0
  rw [out_k, blk_tab]
  obtain ⟨hu, hy, hk⟩ := blk_sg m c t (y 0)
  refine congrArg (fun a : EReal => a * invN) ((xf_2 _ _ _ (y 0) (y 1) (y 2)).trans ?_)
  have u0 := hu 0; have u1 := hu 1; have y0 := hy 0; have y1 := hy 1
  have w0 := blk_wt m c t (y 0) 0; have w1 := blk_wt m c t (y 0) 1
  change sg _ _ _ 0 _ = _ at u0; change sg _ _ _ 1 _ = _ at u1; change sg _ _ _ 2 _ = _ at y0; change sg _ _ _ 3 _ = _ at y1
  rw [u0, u1, y0, y1, w0, w1]
  rfl

/-- The skip gradient of channel `ch` of point `t`. -/
theorem q_at (c : Dev nD) (t : Fin cfg0.N) (ch : Fin 4) (g : ℕ → Fin 4 → Fin 64 → Fin 256 → EReal) (w : ℕ → Fin 4 → EReal)
    (hg : g = sg (iblk m c 3 t) (iblk m c 4 t) (iblk m c 5 t)) (hw : w = wt (grid0.coords t) (iblk m c 0 t) (iblk m c 1 t)) :
    ∑ k : Fin 256, ((∑ n : Fin 64, g 0 ch n k * g 2 ch n k) * w 0 ch + (∑ n : Fin 64, g 1 ch n k * g 3 ch n k) * w 1 ch)
      = kQ (chanM m c (chn t ch)) := by
  obtain ⟨hu, hy, hk⟩ := blk_sg m c t ch
  have u0 := hu 0; have u1 := hu 1; have y0 := hy 0; have y1 := hy 1
  have w0 := blk_wt m c t ch 0; have w1 := blk_wt m c t ch 1
  rw [← hg] at u0 u1 y0 y1
  rw [← hw] at w0 w1
  change g 0 _ = _ at u0; change g 1 _ = _ at u1; change g 2 _ = _ at y0; change g 3 _ = _ at y1
  rw [u0, u1, y0, y1, w0, w1]
  rfl

/-- What point `t` leaves in the skip gradient's block. -/
theorem outs_q (c : Dev nD) (t : Fin cfg0.N) (y : S4x1x128.Idx) :
    (outsAt0 m c t).2.2 y = kQ (chanM m c (chn t (y 0))) := by
  unfold outsAt0
  rw [out_q]
  exact q_at m c t (y 0) _ _ rfl rfl

/-- The input gradient's array after the run. -/
theorem final_u (c : Dev nD) : (dats m 0 c).arrAt 12 cfg0.N = fun i : S2x864x64x256.Idx => kU invN (tabM m c) (chanM m c (i 1)) (i 0) (i 2) (i 3) := by
  refine (dats m 0 c).arrAt_eq_of_covers 12 _ (by decide +kernel) fun t hf y => ?_
  blk_simp
  rw [after0_12]
  refine (outs_u m c t y).trans ?_
  have e : (win0_12.blk t).view.emb y = ix4 (y 0 : Fin 2) (chn t (y 1)) (y 2 : Fin 64) (y 3 : Fin 256) := by blk_ext [idx12 t, chn]
  rw [e]
  rfl

/-- The filter gradient's array after the run. -/
theorem final_k (c : Dev nD) : (dats m 0 c).arrAt 13 cfg0.N = fun i : S864x64x256.Idx => kK invN (tabM m c) (chanM m c (i 0)) (i 1) (i 2) := by
  refine (dats m 0 c).arrAt_eq_of_covers 13 _ (by decide +kernel) fun t hf y => ?_
  blk_simp
  rw [after0_13]
  refine (outs_k m c t y).trans ?_
  have e : (win0_13.blk t).view.emb y = ix3 (chn t (y 0)) (y 1 : Fin 64) (y 2 : Fin 256) := by blk_ext [idx13 t, chn]
  rw [e]
  rfl

/-- The skip gradient's array after the run. -/
theorem final_q (c : Dev nD) : (dats m 0 c).arrAt 14 cfg0.N = fun i : S864x1x128.Idx => kQ (chanM m c (i 0)) := by
  refine (dats m 0 c).arrAt_eq_of_covers 14 _ (by decide +kernel) fun t hf y => ?_
  blk_simp
  rw [after0_14]
  refine (outs_q m c t y).trans ?_
  have e : (win0_14.blk t).view.emb y = ix3 (chn t (y 0)) (y 1 : Fin 1) (y 2 : Fin 128) := by blk_ext [idx14 t, chn]
  rw [e]
  rfl

end Cert.KernelIdeal.Val

end
-- ==== Proof.Real.lean ====
/- The stages of the transform over the real numbers, and the kernel's value at one channel when its data are finite. -/
module

public import proofs.«01_k».proof.Proof.Spec

@[expose] public section

noncomputable section

namespace Cert.Dft

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- Tables of real numbers. -/
structure RTab where
  fr : Fin 256 → Fin 512 → ℝ
  fi : Fin 256 → Fin 512 → ℝ
  ir : Fin 512 → Fin 256 → ℝ
  ii : Fin 512 → Fin 256 → ℝ
  gr : Fin 64 → Fin 64 → ℝ
  gi : Fin 64 → Fin 64 → ℝ
  tr : Fin 64 → Fin 512 → ℝ
  ti : Fin 64 → Fin 512 → ℝ

/-- A channel of real numbers, but for the skip weight, which may be anything. -/
structure RChan where
  u : Fin 2 → Fin 64 → Fin 256 → ℝ
  y : Fin 2 → Fin 64 → Fin 256 → ℝ
  k : Fin 64 → Fin 256 → ℝ
  us : Fin 2 → ℝ
  ds : Fin 2 → ℝ
  d : EReal

/-- Real tables as extended real ones. -/
def RTab.toE (T : RTab) : Tab where
  fr m J := T.fr m J
  fi m J := T.fi m J
  ir J m := T.ir J m
  ii J m := T.ii J m
  gr k n := T.gr k n
  gi k n := T.gi k n
  tr n J := T.tr n J
  ti n J := T.ti n J

/-- A real channel as an extended real one. -/
def RChan.toE (q : RChan) : Chan where
  u b n m := q.u b n m
  y b n m := q.y b n m
  k n m := q.k n m
  us b := q.us b
  ds b := q.ds b
  d := q.d

namespace RTab

variable (T : RTab)

/-- The first stage and the twiddle, real part. -/
def bRe (x : Fin 64 → Fin 256 → ℝ) (J : Fin 512) (n : Fin 64) : ℝ :=
  (∑ m, x n m * T.fr m J) * T.tr n J - (∑ m, x n m * T.fi m J) * T.ti n J

/-- The first stage and the twiddle, imaginary part. -/
def bIm (x : Fin 64 → Fin 256 → ℝ) (J : Fin 512) (n : Fin 64) : ℝ :=
  (∑ m, x n m * T.fr m J) * T.ti n J + (∑ m, x n m * T.fi m J) * T.tr n J

/-- The second stage, real part. -/
def sRe (a b : Fin 64 → ℝ) (k : Fin 64) : ℝ := ∑ n, T.gr k n * a n - ∑ n, T.gi k n * b n

/-- The second stage, imaginary part. -/
def sIm (a b : Fin 64 → ℝ) (k : Fin 64) : ℝ := ∑ n, T.gi k n * a n + ∑ n, T.gr k n * b n

/-- The spectrum, real part. -/
def spRe (x : Fin 64 → Fin 256 → ℝ) (J : Fin 512) (k : Fin 64) : ℝ := T.sRe (T.bRe x J) (T.bIm x J) k

/-- The spectrum, imaginary part. -/
def spIm (x : Fin 64 → Fin 256 → ℝ) (J : Fin 512) (k : Fin 64) : ℝ := T.sIm (T.bRe x J) (T.bIm x J) k

/-- The product of a conjugate spectrum with another, real part. -/
def zRe (x y : Fin 64 → Fin 256 → ℝ) (J : Fin 512) (k : Fin 64) : ℝ := T.spRe x J k * T.spRe y J k + T.spIm x J k * T.spIm y J k

/-- The product of a conjugate spectrum with another, imaginary part. -/
def zIm (x y : Fin 64 → Fin 256 → ℝ) (J : Fin 512) (k : Fin 64) : ℝ := T.spRe x J k * T.spIm y J k - T.spIm x J k * T.spRe y J k

/-- The second stage of the inverse, real part. -/
def cRe (a b : Fin 64 → ℝ) (n : Fin 64) : ℝ := ∑ k, T.gr n k * a k + ∑ k, T.gi n k * b k

/-- The second stage of the inverse, imaginary part. -/
def cIm (a b : Fin 64 → ℝ) (n : Fin 64) : ℝ := ∑ k, T.gr n k * b k - ∑ k, T.gi n k * a k

/-- The second stage of the inverse and its twiddle, real part. -/
def dRe (a b : Fin 64 → ℝ) (J : Fin 512) (n : Fin 64) : ℝ := T.cRe a b n * T.tr n J + T.cIm a b n * T.ti n J

/-- The second stage of the inverse and its twiddle, imaginary part. -/
def dIm (a b : Fin 64 → ℝ) (J : Fin 512) (n : Fin 64) : ℝ := T.cIm a b n * T.tr n J - T.cRe a b n * T.ti n J

/-- The inverse transform. -/
def inv (a b : Fin 512 → Fin 64 → ℝ) (n : Fin 64) (m : Fin 256) : ℝ :=
  ∑ J, T.dRe (a J) (b J) J n * T.ir J m + ∑ J, T.dIm (a J) (b J) J n * T.ii J m

end RTab

/-- The weighted batch sum of the product spectra, real part. -/
def gRe (T : RTab) (q : RChan) (J : Fin 512) (k : Fin 64) : ℝ := ∑ b, q.us b * q.ds b * T.zRe (q.u b) (q.y b) J k

/-- The weighted batch sum of the product spectra, imaginary part. -/
def gIm (T : RTab) (q : RChan) (J : Fin 512) (k : Fin 64) : ℝ := ∑ b, q.us b * q.ds b * T.zIm (q.u b) (q.y b) J k

/-- The input gradient of a channel; `e` scales the inverse transform. -/
def vU (e : EReal) (T : RTab) (q : RChan) (b : Fin 2) (n : Fin 64) (m : Fin 256) : EReal :=
  ((q.ds b * T.inv (T.zRe q.k (q.y b)) (T.zIm q.k (q.y b)) n m : ℝ) : EReal) * e + q.d * (((q.y b n m * q.ds b : ℝ)) : EReal)

/-- The filter gradient of a channel. -/
def vK (e : EReal) (T : RTab) (q : RChan) (n : Fin 64) (m : Fin 256) : EReal :=
  ((T.inv (gRe T q) (gIm T q) n m : ℝ) : EReal) * e

/-- The skip gradient of a channel. -/
def vQ (q : RChan) : ℝ := ∑ b, q.ds b * q.us b * ∑ m : Fin 256, ∑ n : Fin 64, q.u b n m * q.y b n m

section
variable (T : RTab) (q : RChan)

/-- The extended real form has the real table's entries. -/
theorem RTab.toE_fr (m) (J) : T.toE.fr m J = (T.fr m J : EReal) := rfl
/-- The extended real form has the real table's entries. -/
theorem RTab.toE_fi (m) (J) : T.toE.fi m J = (T.fi m J : EReal) := rfl
/-- The extended real form has the real table's entries. -/
theorem RTab.toE_ir (J) (m) : T.toE.ir J m = (T.ir J m : EReal) := rfl
/-- The extended real form has the real table's entries. -/
theorem RTab.toE_ii (J) (m) : T.toE.ii J m = (T.ii J m : EReal) := rfl
/-- The extended real form has the real table's entries. -/
theorem RTab.toE_gr (k) (n) : T.toE.gr k n = (T.gr k n : EReal) := rfl
/-- The extended real form has the real table's entries. -/
theorem RTab.toE_gi (k) (n) : T.toE.gi k n = (T.gi k n : EReal) := rfl
/-- The extended real form has the real table's entries. -/
theorem RTab.toE_tr (n) (J) : T.toE.tr n J = (T.tr n J : EReal) := rfl
/-- The extended real form has the real table's entries. -/
theorem RTab.toE_ti (n) (J) : T.toE.ti n J = (T.ti n J : EReal) := rfl

/-- The extended real form has the real channel's entries. -/
theorem RChan.toE_u (b) (n) (m) : q.toE.u b n m = (q.u b n m : EReal) := rfl
/-- The extended real form has the real channel's entries. -/
theorem RChan.toE_y (b) (n) (m) : q.toE.y b n m = (q.y b n m : EReal) := rfl
/-- The extended real form has the real channel's entries. -/
theorem RChan.toE_k (n) (m) : q.toE.k n m = (q.k n m : EReal) := rfl
/-- The extended real form has the real channel's entries. -/
theorem RChan.toE_us (b) : q.toE.us b = (q.us b : EReal) := rfl
/-- The extended real form has the real channel's entries. -/
theorem RChan.toE_ds (b) : q.toE.ds b = (q.ds b : EReal) := rfl
/-- The extended real form has the real channel's entries. -/
theorem RChan.toE_d : q.toE.d = q.d := rfl

/-- First stage and twiddle of real data, real part: the real number. -/
theorem bRe_coe (x : Fin 64 → Fin 256 → ℝ) (J : Fin 512) (n : Fin 64) : bRe T.toE (fun n m => x n m) J n = T.bRe x J n := by
  simp only [bRe, RTab.bRe, RTab.toE, EReal.coe_sub, EReal.coe_mul, coe_sum]

/-- First stage and twiddle of real data, imaginary part: the real number. -/
theorem bIm_coe (x : Fin 64 → Fin 256 → ℝ) (J : Fin 512) (n : Fin 64) : bIm T.toE (fun n m => x n m) J n = T.bIm x J n := by
  simp only [bIm, RTab.bIm, RTab.toE, EReal.coe_add, EReal.coe_mul, coe_sum]

/-- The spectrum of real data, real part: the real number. -/
theorem spRe_coe (x : Fin 64 → Fin 256 → ℝ) (J : Fin 512) (k : Fin 64) : spRe T.toE (fun n m => x n m) J k = T.spRe x J k := by
  simp only [spRe, sRe, RTab.spRe, RTab.sRe, bRe_coe, bIm_coe, RTab.toE_gr, RTab.toE_gi, EReal.coe_sub, EReal.coe_mul, coe_sum, sub_eq_add_neg]
  simp only [neg_mul, ← EReal.coe_mul, ← EReal.coe_neg, ← coe_sum, ← EReal.coe_add, Finset.sum_neg_distrib]

/-- The spectrum of real data, imaginary part: the real number. -/
theorem spIm_coe (x : Fin 64 → Fin 256 → ℝ) (J : Fin 512) (k : Fin 64) : spIm T.toE (fun n m => x n m) J k = T.spIm x J k := by
  simp only [spIm, sIm, RTab.spIm, RTab.sIm, bRe_coe, bIm_coe, RTab.toE_gr, RTab.toE_gi, EReal.coe_add, EReal.coe_mul, coe_sum]

/-- The product of one spectrum's conjugate with another, real part: the real number. -/
theorem zRe_coe (x y : Fin 64 → Fin 256 → ℝ) (J : Fin 512) (k : Fin 64) : zRe T.toE (fun n m => x n m) (fun n m => y n m) J k = T.zRe x y J k := by
  simp only [zRe, RTab.zRe, spRe_coe, spIm_coe, EReal.coe_add, EReal.coe_mul]

/-- The product of one spectrum's conjugate with another, imaginary part: the real number. -/
theorem zIm_coe (x y : Fin 64 → Fin 256 → ℝ) (J : Fin 512) (k : Fin 64) : zIm T.toE (fun n m => x n m) (fun n m => y n m) J k = T.zIm x y J k := by
  simp only [zIm, RTab.zIm, spRe_coe, spIm_coe, EReal.coe_sub, EReal.coe_mul]

/-- Third stage and twiddle of real data, real part: the real number. -/
theorem dRe_coe (a b : Fin 64 → ℝ) (J : Fin 512) (n : Fin 64) : dRe T.toE (fun k => a k) (fun k => b k) J n = T.dRe a b J n := by
  simp only [dRe, RTab.toE, neg_mul, ← EReal.coe_mul, ← EReal.coe_neg, ← EReal.coe_add, ← coe_sum, Finset.sum_neg_distrib]
  simp only [RTab.dRe, RTab.cRe, RTab.cIm, sub_eq_add_neg, add_comm]

/-- Third stage and twiddle of real data, imaginary part: the real number. -/
theorem dIm_coe (a b : Fin 64 → ℝ) (J : Fin 512) (n : Fin 64) : dIm T.toE (fun k => a k) (fun k => b k) J n = T.dIm a b J n := by
  simp only [dIm, RTab.toE, neg_mul, ← EReal.coe_mul, ← EReal.coe_neg, ← EReal.coe_add, ← EReal.coe_sub, ← coe_sum, Finset.sum_neg_distrib]
  simp only [RTab.dIm, RTab.cRe, RTab.cIm, sub_eq_add_neg, add_comm]

/-- The inverse transform of real data: the real number. -/
theorem inv_coe (a b : Fin 512 → Fin 64 → ℝ) (n : Fin 64) (m : Fin 256) : inv T.toE (fun J k => a J k) (fun J k => b J k) n m = T.inv a b n m := by
  simp only [inv, RTab.inv, dRe_coe, dIm_coe, EReal.coe_add, EReal.coe_mul, coe_sum]
  rfl

/-- The kernel's input gradient at a finite channel. -/
theorem kU_coe (e : EReal) (b : Fin 2) (n : Fin 64) (m : Fin 256) : kU e T.toE q.toE b n m = vU e T q b n m := by
  have hr : zRe T.toE q.toE.k (q.toE.y b) = fun J k => ((T.zRe q.k (q.y b) J k : ℝ) : EReal) := funext fun J => funext fun k => zRe_coe T q.k (q.y b) J k
  have hi : zIm T.toE q.toE.k (q.toE.y b) = fun J k => ((T.zIm q.k (q.y b) J k : ℝ) : EReal) := funext fun J => funext fun k => zIm_coe T q.k (q.y b) J k
  simp only [kU, hr, hi, inv_coe, RChan.toE_ds, RChan.toE_y, RChan.toE_d, vU, EReal.coe_mul]
  generalize (((T.inv (T.zRe q.k (q.y b)) (T.zIm q.k (q.y b)) n m : ℝ) : EReal)) = z
  rw [mul_left_comm z, mul_assoc, mul_left_comm (q.d)]

/-- The product of the spectra of a real channel, real part: the real number. -/
theorem zRe_toE (b : Fin 2) (J : Fin 512) (k : Fin 64) : zRe T.toE (q.toE.u b) (q.toE.y b) J k = T.zRe (q.u b) (q.y b) J k := zRe_coe T (q.u b) (q.y b) J k

/-- The product of the spectra of a real channel, imaginary part: the real number. -/
theorem zIm_toE (b : Fin 2) (J : Fin 512) (k : Fin 64) : zIm T.toE (q.toE.u b) (q.toE.y b) J k = T.zIm (q.u b) (q.y b) J k := zIm_coe T (q.u b) (q.y b) J k

/-- The kernel's filter gradient at a finite channel. -/
theorem kK_coe (e : EReal) (n : Fin 64) (m : Fin 256) : kK e T.toE q.toE n m = vK e T q n m := by
  have hr : ∀ J k, ((T.zRe (q.u 0) (q.y 0) J k * (q.us 0 * q.ds 0) + T.zRe (q.u 1) (q.y 1) J k * (q.us 1 * q.ds 1) : ℝ) : EReal) = (gRe T q J k : ℝ) := fun J k => by
    simp only [gRe, Fin.sum_univ_two, mul_comm]
  have hi : ∀ J k, ((T.zIm (q.u 0) (q.y 0) J k * (q.us 0 * q.ds 0) + T.zIm (q.u 1) (q.y 1) J k * (q.us 1 * q.ds 1) : ℝ) : EReal) = (gIm T q J k : ℝ) := fun J k => by
    simp only [gIm, Fin.sum_univ_two, mul_comm]
  simp only [kK, zRe_toE, zIm_toE, RChan.toE_us, RChan.toE_ds, ← EReal.coe_mul, ← EReal.coe_add]
  simp only [hr, hi, inv_coe, vK]

/-- The kernel's skip gradient at a finite channel. -/
theorem kQ_coe : kQ q.toE = vQ q := by
  simp only [kQ, RChan.toE, ← EReal.coe_mul, ← EReal.coe_add, ← coe_sum]
  refine congrArg _ ?_
  rw [vQ, Fin.sum_univ_two, Finset.mul_sum, Finset.mul_sum, ← Finset.sum_add_distrib]
  refine Finset.sum_congr rfl fun m _ => ?_
  ring
end

end Cert.Dft

end
-- ==== Proof.RBase.lean ====
/- What the reference's host lines read: tables and channels of real numbers. -/
module

public import proofs.«01_k».proof.Proof.Real
public import proofs.«01_k».proof.Proof.Gen.ReferenceIdeal.Frame
public import Idealize.ShloMosaic.Lib.StableHlo.RunRead
public import Idealize.ShloMosaic.Lib.Pointwise

@[expose] public section

set_option maxRecDepth 16384

noncomputable section

namespace Cert.Dft

/-- The arguments of the problem that hold a number per position and channel, as real numbers, but for the skip weight. -/
structure RData where
  u : Fin 2 → Fin 16384 → Fin 864 → ℝ
  y : Fin 2 → Fin 16384 → Fin 864 → ℝ
  k : Fin 16384 → Fin 864 → ℝ
  us : Fin 2 → Fin 864 → ℝ
  ds : Fin 2 → Fin 864 → ℝ
  d : Fin 864 → EReal

/-- One channel of the data: position `m * 64 + n` is read at `n`, `m`. -/
def RData.chan (D : RData) (h : Fin 864) : RChan where
  u b n m := D.u b ⟨m.val * 64 + n.val, by omega⟩ h
  y b n m := D.y b ⟨m.val * 64 + n.val, by omega⟩ h
  k n m := D.k ⟨m.val * 64 + n.val, by omega⟩ h
  us b := D.us b h
  ds b := D.ds b h
  d := D.d h

/-- The inner index of a position. -/
def posN (t : Fin 16384) : Fin 64 := ⟨t.val % 64, by omega⟩

/-- The outer index of a position. -/
def posM (t : Fin 16384) : Fin 256 := ⟨t.val / 64, by omega⟩

/-- The column of position `m * 64 + n` is `n`. -/
theorem posN_at (n : Fin 64) (m : Fin 256) (h : m.val * 64 + n.val < 16384) : posN ⟨m.val * 64 + n.val, h⟩ = n := Fin.ext (by simp only [posN]; omega)

/-- The row of position `m * 64 + n` is `m`. -/
theorem posM_at (n : Fin 64) (m : Fin 256) (h : m.val * 64 + n.val < 16384) : posM ⟨m.val * 64 + n.val, h⟩ = m := Fin.ext (by simp only [posM]; omega)

/-- The remainder of `m * 64 + n` by 64 is `n`. -/
theorem fin_mod (n : Fin 64) (m : Fin 256) (h : (m.val * 64 + n.val) % 64 < 64) : (⟨(m.val * 64 + n.val) % 64, h⟩ : Fin 64) = n := Fin.ext (by simp only []; omega)

/-- The quotient of `m * 64 + n` by 64 is `m`. -/
theorem fin_div (n : Fin 64) (m : Fin 256) (h : (m.val * 64 + n.val) / 64 < 256) : (⟨(m.val * 64 + n.val) / 64, h⟩ : Fin 256) = m := Fin.ext (by simp only []; omega)

/-- The input gradient of a channel, read at a position. -/
theorem vU_read (e : EReal) (T : RTab) (D : RData) (b : Fin 2) (h : Fin 864) (n : Fin 64) (m : Fin 256) (h1 : (m.val * 64 + n.val) % 64 < 64)
    (h2 : (m.val * 64 + n.val) / 64 < 256) (h3 : m.val * 64 + n.val < 16384) :
    ((D.ds b h * T.inv (T.zRe (D.chan h).k ((D.chan h).y b)) (T.zIm (D.chan h).k ((D.chan h).y b)) ⟨(m.val * 64 + n.val) % 64, h1⟩
      ⟨(m.val * 64 + n.val) / 64, h2⟩ : ℝ) : EReal) * e + D.d h * ((D.y b ⟨m.val * 64 + n.val, h3⟩ h : EReal) * (D.ds b h : EReal))
      = vU e T (D.chan h) b n m := by
  rw [fin_mod, fin_div, ← EReal.coe_mul (D.y _ _ _)]
  rfl

/-- A sum over the positions is the sum over the outer and the inner index. -/
theorem sum_pos (f : Fin 16384 → ℝ) : ∑ t, f t = ∑ m : Fin 256, ∑ n : Fin 64, f ⟨m.val * 64 + n.val, by omega⟩ := by
  rw [← Fintype.sum_prod_type', ← (finProdFinEquiv (m := 256) (n := 64)).sum_comp f]
  refine Finset.sum_congr rfl fun x _ => congrArg f (Fin.ext ?_)
  show x.2.val + 64 * x.1.val = x.1.val * 64 + x.2.val
  omega

/-- A factor common to both inputs comes out of a difference of two sums. -/
theorem scale_sub (s : ℝ) (g w a b a' b' : Fin 64 → ℝ) (ha : ∀ n, a' n = s * a n) (hb : ∀ n, b' n = s * b n) :
    ∑ n, g n * a' n - ∑ n, w n * b' n = s * (∑ n, g n * a n - ∑ n, w n * b n) := by
  simp only [ha, hb, mul_left_comm _ s, ← Finset.mul_sum, mul_sub]

/-- A factor common to both inputs comes out of a sum of two sums. -/
theorem scale_add (s : ℝ) (g w a b a' b' : Fin 64 → ℝ) (ha : ∀ n, a' n = s * a n) (hb : ∀ n, b' n = s * b n) :
    ∑ n, g n * a' n + ∑ n, w n * b' n = s * (∑ n, g n * a n + ∑ n, w n * b n) := by
  simp only [ha, hb, mul_left_comm _ s, ← Finset.mul_sum, mul_add]

/-- A factor common to both parts comes out of the inverse transform. -/
theorem RTab.inv_scale (T : RTab) (s : ℝ) (a b : Fin 512 → Fin 64 → ℝ) (n : Fin 64) (m : Fin 256) :
    T.inv (fun J k => s * a J k) (fun J k => s * b J k) n m = s * T.inv a b n m := by
  have hr : ∀ J, T.cRe (fun k => s * a J k) (fun k => s * b J k) n = s * T.cRe (a J) (b J) n := fun J =>
    scale_add s _ _ _ _ _ _ (fun _ => rfl) fun _ => rfl
  have hi : ∀ J, T.cIm (fun k => s * a J k) (fun k => s * b J k) n = s * T.cIm (a J) (b J) n := fun J =>
    scale_sub s _ _ _ _ _ _ (fun _ => rfl) fun _ => rfl
  have hdr : ∀ J, T.dRe (fun k => s * a J k) (fun k => s * b J k) J n = s * T.dRe (a J) (b J) J n := fun J => by
    rw [RTab.dRe, RTab.dRe, hr, hi]; ring
  have hdi : ∀ J, T.dIm (fun k => s * a J k) (fun k => s * b J k) J n = s * T.dIm (a J) (b J) J n := fun J => by
    rw [RTab.dIm, RTab.dIm, hr, hi]; ring
  simp only [RTab.inv, hdr, hdi, mul_assoc s, ← Finset.mul_sum, mul_add]

end Cert.Dft

namespace Cert.ReferenceIdeal.Val

open Cert.ReferenceIdeal Cert.ReferenceIdeal.Gen Idealize.ShloMosaic Idealize.ShloMosaic.TcCoe Idealize.SL.Sem Cert.Dft

/-- The contents of the device's buffers. -/
abbrev Vals := Valuation τ sig (Elt Ideal)

/-- The buffers the host lines start from hold the tables `T` and the data `D`. -/
structure Base (V : Vals) (T : RTab) (D : RData) : Prop where
  g1r : V (Proc.devRef .tc main_v7) = fun i : S512x256.Idx => (T.fr (i 1) (i 0) : EReal)
  g1i : V (Proc.devRef .tc main_v8) = fun i : S512x256.Idx => (T.fi (i 1) (i 0) : EReal)
  i1r : V (Proc.devRef .tc main_v9) = fun i : S256x512.Idx => (T.ir (i 1) (i 0) : EReal)
  i1i : V (Proc.devRef .tc main_v10) = fun i : S256x512.Idx => (T.ii (i 1) (i 0) : EReal)
  g2r : V (Proc.devRef .tc main_v6_4) = fun i : S64x64.Idx => (T.gr (i 0) (i 1) : EReal)
  g2i : V (Proc.devRef .tc main_v6_5) = fun i : S64x64.Idx => (T.gi (i 0) (i 1) : EReal)
  twr : V (Proc.devRef .tc main_arg10) = fun i : S512x64.Idx => (T.tr (i 1) (i 0) : EReal)
  twi : V (Proc.devRef .tc main_arg11) = fun i : S512x64.Idx => (T.ti (i 1) (i 0) : EReal)
  u : V (Proc.devRef .tc main_v6_0) = fun i : S2x16384x864.Idx => (D.u (i 0) (i 1) (i 2) : EReal)
  y : V (Proc.devRef .tc main_v6_1) = fun i : S2x16384x864.Idx => (D.y (i 0) (i 1) (i 2) : EReal)
  k : V (Proc.devRef .tc main_arg4) = fun i : S16384x864.Idx => (D.k (i 0) (i 1) : EReal)
  us : V (Proc.devRef .tc main_arg1) = fun i : S2x864.Idx => (D.us (i 0) (i 1) : EReal)
  ds : V (Proc.devRef .tc main_arg3) = fun i : S2x864.Idx => (D.ds (i 0) (i 1) : EReal)
  d : V (Proc.devRef .tc main_arg5) = fun i : S864.Idx => D.d (i 0)

/-- What the lines up to position `j`, from position `i` on, leave in the buffers. -/
abbrev seg (i n : ℕ) (V : Vals) : Vals := StableHlo.after (List.take n (List.drop i (hostOps1 (F := Ideal)))) V

end Cert.ReferenceIdeal.Val

end
-- ==== Proof.RA.lean ====
/- The reference's transform of the filter. -/
module

public import proofs.«01_k».proof.Proof.RBase

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

variable (V : Vals) (T : RTab) (D : RData)

/-- These lines leave the real part of the filter's spectrum, channel by channel. -/
theorem segA_re (B : Base V T D) : seg 4 28 V (Proc.devRef .tc main_v33) = fun i : S512x64x864.Idx => ((T.spRe (D.chan (i 2)).k (i 0) (i 1) : ℝ) : EReal) := by
  after_reads_simp
  rw [B.g1r, B.g1i, B.g2r, B.g2i, B.twr, B.twi, B.k]
  funext i
  idx_vars i
  pointwise
  simp only [← EReal.coe_mul, ← EReal.coe_sub, ← EReal.coe_add, ← coe_sum]
  simp only [RTab.spRe, RTab.spIm, RTab.sRe, RTab.sIm, RTab.bRe, RTab.bIm, RData.chan, mul_comm]

/-- These lines leave the imaginary part of the filter's spectrum, channel by channel. -/
theorem segA_im (B : Base V T D) : seg 4 28 V (Proc.devRef .tc main_v38) = fun i : S512x64x864.Idx => ((T.spIm (D.chan (i 2)).k (i 0) (i 1) : ℝ) : EReal) := by
  after_reads_simp
  rw [B.g1r, B.g1i, B.g2r, B.g2i, B.twr, B.twi, B.k]
  funext i
  idx_vars i
  pointwise
  simp only [← EReal.coe_mul, ← EReal.coe_sub, ← EReal.coe_add, ← coe_sum]
  simp only [RTab.spRe, RTab.spIm, RTab.sRe, RTab.sIm, RTab.bRe, RTab.bIm, RData.chan, mul_comm]

end Cert.ReferenceIdeal.Val

end
-- ==== Proof.RB.lean ====
/- The reference's transform of the scaled input. -/
module

public import proofs.«01_k».proof.Proof.RBase

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

variable (V : Vals) (T : RTab) (D : RData)

/-- These lines leave the real part of the scaled input's spectrum: the scale times the spectrum of the codes. -/
theorem segB_re (B : Base V T D) : seg 32 38 V (Proc.devRef .tc main_v71) = fun i : S2x512x64x864.Idx => ((D.us (i 0) (i 3) * T.spRe ((D.chan (i 3)).u (i 0)) (i 1) (i 2) : ℝ) : EReal) := by
  after_reads_simp
  rw [B.g1r, B.g1i, B.g2r, B.g2i, B.twr, B.twi, B.u, B.us]
  funext i
  idx_vars i
  pointwise
  simp only [← EReal.coe_mul, ← EReal.coe_sub, ← EReal.coe_add, ← coe_sum]
  rw [RTab.spRe, RTab.sRe]
  refine congrArg _ (scale_sub _ _ _ _ _ _ _ (fun n => ?_) fun n => ?_)
  · simp only [RTab.bRe, RData.chan]
    ring
  · simp only [RTab.bIm, RData.chan]
    ring

/-- These lines leave the imaginary part of the scaled input's spectrum: the scale times the spectrum of the codes. -/
theorem segB_im (B : Base V T D) : seg 32 38 V (Proc.devRef .tc main_v76) = fun i : S2x512x64x864.Idx => ((D.us (i 0) (i 3) * T.spIm ((D.chan (i 3)).u (i 0)) (i 1) (i 2) : ℝ) : EReal) := by
  after_reads_simp
  rw [B.g1r, B.g1i, B.g2r, B.g2i, B.twr, B.twi, B.u, B.us]
  funext i
  idx_vars i
  pointwise
  simp only [← EReal.coe_mul, ← EReal.coe_sub, ← EReal.coe_add, ← coe_sum]
  rw [RTab.spIm, RTab.sIm]
  refine congrArg _ (scale_add _ _ _ _ _ _ _ (fun n => ?_) fun n => ?_)
  · simp only [RTab.bRe, RData.chan]
    ring
  · simp only [RTab.bIm, RData.chan]
    ring

end Cert.ReferenceIdeal.Val

end
-- ==== Proof.RC.lean ====
/- The reference's transform of the scaled output gradient. -/
module

public import proofs.«01_k».proof.Proof.RBase

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

variable (V : Vals) (T : RTab) (D : RData)

/-- These lines leave the real part of the scaled output gradient's spectrum: the scale times the spectrum of the codes. -/
theorem segC_re (B : Base V T D) : seg 70 38 V (Proc.devRef .tc main_v109) = fun i : S2x512x64x864.Idx => ((D.ds (i 0) (i 3) * T.spRe ((D.chan (i 3)).y (i 0)) (i 1) (i 2) : ℝ) : EReal) := by
  after_reads_simp
  rw [B.g1r, B.g1i, B.g2r, B.g2i, B.twr, B.twi, B.y, B.ds]
  funext i
  idx_vars i
  pointwise
  simp only [← EReal.coe_mul, ← EReal.coe_sub, ← EReal.coe_add, ← coe_sum]
  rw [RTab.spRe, RTab.sRe]
  refine congrArg _ (scale_sub _ _ _ _ _ _ _ (fun n => ?_) fun n => ?_)
  · simp only [RTab.bRe, RData.chan]
    ring
  · simp only [RTab.bIm, RData.chan]
    ring

/-- These lines leave the imaginary part of the scaled output gradient's spectrum: the scale times the spectrum of the codes. -/
theorem segC_im (B : Base V T D) : seg 70 38 V (Proc.devRef .tc main_v114) = fun i : S2x512x64x864.Idx => ((D.ds (i 0) (i 3) * T.spIm ((D.chan (i 3)).y (i 0)) (i 1) (i 2) : ℝ) : EReal) := by
  after_reads_simp
  rw [B.g1r, B.g1i, B.g2r, B.g2i, B.twr, B.twi, B.y, B.ds]
  funext i
  idx_vars i
  pointwise
  simp only [← EReal.coe_mul, ← EReal.coe_sub, ← EReal.coe_add, ← coe_sum]
  rw [RTab.spIm, RTab.sIm]
  refine congrArg _ (scale_add _ _ _ _ _ _ _ (fun n => ?_) fun n => ?_)
  · simp only [RTab.bRe, RData.chan]
    ring
  · simp only [RTab.bIm, RData.chan]
    ring

end Cert.ReferenceIdeal.Val

end
-- ==== Proof.RD.lean ====
/- The reference's weighted batch sum of the product spectra. -/
module

public import proofs.«01_k».proof.Proof.RBase

@[expose] public section

set_option maxRecDepth 16384
set_option maxHeartbeats 2000000

noncomputable section

namespace Cert.ReferenceIdeal.Val

open Cert.ReferenceIdeal Cert.ReferenceIdeal.Gen Idealize.ShloMosaic Idealize.ShloMosaic.TcCoe Idealize.SL.Sem Cert.Dft

variable (V : Vals) (T : RTab) (D : RData)

/-- From the two spectra, these lines leave the real part of the filter gradient's spectrum, summed over the batches. -/
theorem segD_re (h71 : V (Proc.devRef .tc main_v71) = fun i : S2x512x64x864.Idx => ((D.us (i 0) (i 3) * T.spRe ((D.chan (i 3)).u (i 0)) (i 1) (i 2) : ℝ) : EReal)) (h76 : V (Proc.devRef .tc main_v76) = fun i : S2x512x64x864.Idx => ((D.us (i 0) (i 3) * T.spIm ((D.chan (i 3)).u (i 0)) (i 1) (i 2) : ℝ) : EReal)) (h109 : V (Proc.devRef .tc main_v109) = fun i : S2x512x64x864.Idx => ((D.ds (i 0) (i 3) * T.spRe ((D.chan (i 3)).y (i 0)) (i 1) (i 2) : ℝ) : EReal)) (h114 : V (Proc.devRef .tc main_v114) = fun i : S2x512x64x864.Idx => ((D.ds (i 0) (i 3) * T.spIm ((D.chan (i 3)).y (i 0)) (i 1) (i 2) : ℝ) : EReal)) : seg 108 12 V (Proc.devRef .tc main_v119) = fun i : S512x64x864.Idx => ((gRe T (D.chan (i 2)) (i 0) (i 1) : ℝ) : EReal) := by
  after_reads_simp
  rw [h71, h76, h109, h114]
  funext i
  idx_vars i
  pointwise
  simp only [← EReal.coe_mul, ← EReal.coe_sub, ← EReal.coe_add, ← coe_sum]
  refine congrArg _ (Finset.sum_congr rfl fun b _ => ?_)
  simp only [RTab.zRe, RTab.zIm, RData.chan]
  ring

/-- From the two spectra, these lines leave the imaginary part of the filter gradient's spectrum, summed over the batches. -/
theorem segD_im (h71 : V (Proc.devRef .tc main_v71) = fun i : S2x512x64x864.Idx => ((D.us (i 0) (i 3) * T.spRe ((D.chan (i 3)).u (i 0)) (i 1) (i 2) : ℝ) : EReal)) (h76 : V (Proc.devRef .tc main_v76) = fun i : S2x512x64x864.Idx => ((D.us (i 0) (i 3) * T.spIm ((D.chan (i 3)).u (i 0)) (i 1) (i 2) : ℝ) : EReal)) (h109 : V (Proc.devRef .tc main_v109) = fun i : S2x512x64x864.Idx => ((D.ds (i 0) (i 3) * T.spRe ((D.chan (i 3)).y (i 0)) (i 1) (i 2) : ℝ) : EReal)) (h114 : V (Proc.devRef .tc main_v114) = fun i : S2x512x64x864.Idx => ((D.ds (i 0) (i 3) * T.spIm ((D.chan (i 3)).y (i 0)) (i 1) (i 2) : ℝ) : EReal)) : seg 108 12 V (Proc.devRef .tc main_v124) = fun i : S512x64x864.Idx => ((gIm T (D.chan (i 2)) (i 0) (i 1) : ℝ) : EReal) := by
  after_reads_simp
  rw [h71, h76, h109, h114]
  funext i
  idx_vars i
  pointwise
  simp only [← EReal.coe_mul, ← EReal.coe_sub, ← EReal.coe_add, ← coe_sum]
  refine congrArg _ (Finset.sum_congr rfl fun b _ => ?_)
  simp only [RTab.zRe, RTab.zIm, RData.chan]
  ring

end Cert.ReferenceIdeal.Val

end
-- ==== Proof.RE.lean ====
/- The reference's inverse transform for the filter gradient. -/
module

public import proofs.«01_k».proof.Proof.RBase

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

variable (V : Vals) (T : RTab) (D : RData)

/-- From its spectrum, these lines leave the filter gradient: the inverse transform times the constant, in order of time. -/
theorem segE (B : Base V T D) (h119 : V (Proc.devRef .tc main_v119) = fun i : S512x64x864.Idx => ((gRe T (D.chan (i 2)) (i 0) (i 1) : ℝ) : EReal)) (h124 : V (Proc.devRef .tc main_v124) = fun i : S512x64x864.Idx => ((gIm T (D.chan (i 2)) (i 0) (i 1) : ℝ) : EReal)) : seg 120 31 V (Proc.devRef .tc main_v154) = fun i : S16384x864.Idx => ((T.inv (gRe T (D.chan (i 1))) (gIm T (D.chan (i 1))) (posN (i 0)) (posM (i 0)) : ℝ) : EReal) * FloatOps.ofBits (F := Ideal) .f32 0x38000000#32 := by
  after_reads_simp
  rw [B.i1r, B.i1i, B.g2r, B.g2i, B.twr, B.twi, h119, h124]
  funext i
  idx_vars i
  pointwise
  simp only [← EReal.coe_mul, ← EReal.coe_sub, ← EReal.coe_add, ← coe_sum]
  refine congrArg (fun x : ℝ => (x : EReal) * _) ?_
  exact congrArg₂ (fun a b : ℝ => a + b) (Finset.sum_congr rfl fun J _ => mul_comm _ _) (Finset.sum_congr rfl fun J _ => mul_comm _ _)

end Cert.ReferenceIdeal.Val

end
-- ==== Proof.RF.lean ====
/- The reference's product of the filter's conjugate spectrum with the output gradient's. -/
module

public import proofs.«01_k».proof.Proof.RBase

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

variable (V : Vals) (T : RTab) (D : RData)

/-- From the two spectra, these lines leave the real part of the input gradient's spectrum. -/
theorem segF_re (h33 : V (Proc.devRef .tc main_v33) = fun i : S512x64x864.Idx => ((T.spRe (D.chan (i 2)).k (i 0) (i 1) : ℝ) : EReal)) (h38 : V (Proc.devRef .tc main_v38) = fun i : S512x64x864.Idx => ((T.spIm (D.chan (i 2)).k (i 0) (i 1) : ℝ) : EReal)) (h109 : V (Proc.devRef .tc main_v109) = fun i : S2x512x64x864.Idx => ((D.ds (i 0) (i 3) * T.spRe ((D.chan (i 3)).y (i 0)) (i 1) (i 2) : ℝ) : EReal)) (h114 : V (Proc.devRef .tc main_v114) = fun i : S2x512x64x864.Idx => ((D.ds (i 0) (i 3) * T.spIm ((D.chan (i 3)).y (i 0)) (i 1) (i 2) : ℝ) : EReal)) : seg 151 16 V (Proc.devRef .tc main_v162) = fun i : S2x512x64x864.Idx => ((D.ds (i 0) (i 3) * T.zRe (D.chan (i 3)).k ((D.chan (i 3)).y (i 0)) (i 1) (i 2) : ℝ) : EReal) := by
  after_reads_simp
  rw [h33, h38, h109, h114]
  funext i
  idx_vars i
  pointwise
  simp only [← EReal.coe_mul, ← EReal.coe_sub, ← EReal.coe_add, ← coe_sum]
  refine congrArg _ ?_
  simp only [RTab.zRe, RTab.zIm]
  ring

/-- From the two spectra, these lines leave the imaginary part of the input gradient's spectrum. -/
theorem segF_im (h33 : V (Proc.devRef .tc main_v33) = fun i : S512x64x864.Idx => ((T.spRe (D.chan (i 2)).k (i 0) (i 1) : ℝ) : EReal)) (h38 : V (Proc.devRef .tc main_v38) = fun i : S512x64x864.Idx => ((T.spIm (D.chan (i 2)).k (i 0) (i 1) : ℝ) : EReal)) (h109 : V (Proc.devRef .tc main_v109) = fun i : S2x512x64x864.Idx => ((D.ds (i 0) (i 3) * T.spRe ((D.chan (i 3)).y (i 0)) (i 1) (i 2) : ℝ) : EReal)) (h114 : V (Proc.devRef .tc main_v114) = fun i : S2x512x64x864.Idx => ((D.ds (i 0) (i 3) * T.spIm ((D.chan (i 3)).y (i 0)) (i 1) (i 2) : ℝ) : EReal)) : seg 151 16 V (Proc.devRef .tc main_v170) = fun i : S2x512x64x864.Idx => ((D.ds (i 0) (i 3) * T.zIm (D.chan (i 3)).k ((D.chan (i 3)).y (i 0)) (i 1) (i 2) : ℝ) : EReal) := by
  after_reads_simp
  rw [h33, h38, h109, h114]
  funext i
  idx_vars i
  pointwise
  simp only [← EReal.coe_mul, ← EReal.coe_sub, ← EReal.coe_add, ← coe_sum]
  refine congrArg _ ?_
  simp only [RTab.zRe, RTab.zIm]
  ring

end Cert.ReferenceIdeal.Val

end
-- ==== Proof.RG.lean ====
/- The reference's inverse transform for the input gradient. -/
module

public import proofs.«01_k».proof.Proof.RBase

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

variable (V : Vals) (T : RTab) (D : RData)

/-- From its spectrum, these lines leave the inverse transform of the input gradient, times the scale. -/
theorem segG (B : Base V T D) (h162 : V (Proc.devRef .tc main_v162) = fun i : S2x512x64x864.Idx => ((D.ds (i 0) (i 3) * T.zRe (D.chan (i 3)).k ((D.chan (i 3)).y (i 0)) (i 1) (i 2) : ℝ) : EReal)) (h170 : V (Proc.devRef .tc main_v170) = fun i : S2x512x64x864.Idx => ((D.ds (i 0) (i 3) * T.zIm (D.chan (i 3)).k ((D.chan (i 3)).y (i 0)) (i 1) (i 2) : ℝ) : EReal)) : seg 167 33 V (Proc.devRef .tc main_v203) = fun i : S2x256x64x864.Idx => ((D.ds (i 0) (i 3) * T.inv (T.zRe (D.chan (i 3)).k ((D.chan (i 3)).y (i 0))) (T.zIm (D.chan (i 3)).k ((D.chan (i 3)).y (i 0))) (i 2) (i 1) : ℝ) : EReal) := by
  after_reads_simp
  rw [B.i1r, B.i1i, B.g2r, B.g2i, B.twr, B.twi, h162, h170]
  funext i
  idx_vars i
  pointwise
  simp only [← EReal.coe_mul, ← EReal.coe_sub, ← EReal.coe_add, ← coe_sum]
  rw [← RTab.inv_scale]
  rfl

end Cert.ReferenceIdeal.Val

end
-- ==== Proof.RH.lean ====
/- The reference's three results. -/
module

public import proofs.«01_k».proof.Proof.RBase

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

variable (V : Vals) (T : RTab) (D : RData)

/-- These lines leave the first result, the input gradient. -/
theorem segH_u (B : Base V T D) (h203 : V (Proc.devRef .tc main_v203) = fun i : S2x256x64x864.Idx => ((D.ds (i 0) (i 3) * T.inv (T.zRe (D.chan (i 3)).k ((D.chan (i 3)).y (i 0))) (T.zIm (D.chan (i 3)).k ((D.chan (i 3)).y (i 0))) (i 2) (i 1) : ℝ) : EReal)) : seg 200 24 V (Proc.devRef .tc main_v221) = fun i : S2x864x64x256.Idx => vU (FloatOps.ofBits (F := Ideal) .f32 0x38000000#32) T (D.chan (i 1)) (i 0) (i 2) (i 3) := by
  after_reads_simp
  rw [B.y, B.ds, B.d, h203]
  funext i
  idx_vars i
  pointwise
  exact vU_read _ T D i0 i1 i2 i3 _ _ _

/-- These lines leave the second result, the filter gradient. -/
theorem segH_k (h154 : V (Proc.devRef .tc main_v154) = fun i : S16384x864.Idx => ((T.inv (gRe T (D.chan (i 1))) (gIm T (D.chan (i 1))) (posN (i 0)) (posM (i 0)) : ℝ) : EReal) * FloatOps.ofBits (F := Ideal) .f32 0x38000000#32) : seg 200 24 V (Proc.devRef .tc main_v223) = fun i : S864x64x256.Idx => vK (FloatOps.ofBits (F := Ideal) .f32 0x38000000#32) T (D.chan (i 0)) (i 1) (i 2) := by
  after_reads_simp
  rw [h154]
  funext i
  idx_vars i
  pointwise
  rw [posN_at, posM_at, vK]

/-- These lines leave the third result, the skip weight's gradient, on every lane. -/
theorem segH_q (B : Base V T D) : seg 200 24 V (Proc.devRef .tc main_v225) = fun i : S864x1x128.Idx => ((vQ (D.chan (i 0)) : ℝ) : EReal) := by
  after_reads_simp
  rw [B.u, B.y, B.us, B.ds]
  funext i
  idx_vars i
  pointwise
  simp only [← EReal.coe_mul, ← EReal.coe_sub, ← EReal.coe_add, ← coe_sum]
  refine congrArg _ (Finset.sum_congr rfl fun b _ => ?_)
  rw [sum_pos]
  rfl

end Cert.ReferenceIdeal.Val

end
-- ==== Proof.RChain.lean ====
/- The reference's results, line by line to the end. -/
module

public import proofs.«01_k».proof.Proof.RA
public import proofs.«01_k».proof.Proof.RB
public import proofs.«01_k».proof.Proof.RC
public import proofs.«01_k».proof.Proof.RD
public import proofs.«01_k».proof.Proof.RE
public import proofs.«01_k».proof.Proof.RF
public import proofs.«01_k».proof.Proof.RG
public import proofs.«01_k».proof.Proof.RH

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

/-- Each host line writes the one buffer it is listed with. -/
theorem writes_eq : (hostOps1 (F := Ideal)).map HloOp.writes = hostOps1_W.map fun w => {Proc.devRef (τ := τ) .tc w} := rfl

/-- A buffer no line of a stretch writes keeps its contents over it. -/
theorem seg_keep (i n : ℕ) (V : Vals) (r : Ref sig .tc) (hr : r ∉ List.take n (List.drop i hostOps1_W)) :
    seg i n V (Proc.devRef .tc r) = V (Proc.devRef .tc r) :=
  StableHlo.after_unwritten _ (by rw [List.map_take, List.map_drop, writes_eq, List.map_take, List.map_drop]) hr V

/-- The buffers `Base` speaks of. -/
def baseRefs : List (Ref sig .tc) :=
  [main_v7, main_v8, main_v9, main_v10, main_v6_4, main_v6_5, main_arg10, main_arg11, main_v6_0, main_v6_1, main_arg4, main_arg1, main_arg3, main_arg5]

/-- A stretch of lines that writes none of the buffers `Base` speaks of keeps `Base`. -/
theorem Base.keep {V : Vals} {T : RTab} {D : RData} (B : Base V T D) (i n : ℕ) (h : ∀ r ∈ baseRefs, r ∉ List.take n (List.drop i hostOps1_W)) :
    Base (seg i n V) T D where
  g1r := (seg_keep i n V main_v7 (h _ (by decide))).trans B.g1r
  g1i := (seg_keep i n V main_v8 (h _ (by decide))).trans B.g1i
  i1r := (seg_keep i n V main_v9 (h _ (by decide))).trans B.i1r
  i1i := (seg_keep i n V main_v10 (h _ (by decide))).trans B.i1i
  g2r := (seg_keep i n V main_v6_4 (h _ (by decide))).trans B.g2r
  g2i := (seg_keep i n V main_v6_5 (h _ (by decide))).trans B.g2i
  twr := (seg_keep i n V main_arg10 (h _ (by decide))).trans B.twr
  twi := (seg_keep i n V main_arg11 (h _ (by decide))).trans B.twi
  u := (seg_keep i n V main_v6_0 (h _ (by decide))).trans B.u
  y := (seg_keep i n V main_v6_1 (h _ (by decide))).trans B.y
  k := (seg_keep i n V main_arg4 (h _ (by decide))).trans B.k
  us := (seg_keep i n V main_arg1 (h _ (by decide))).trans B.us
  ds := (seg_keep i n V main_arg3 (h _ (by decide))).trans B.ds
  d := (seg_keep i n V main_arg5 (h _ (by decide))).trans B.d

/-- The lines from a position on are a stretch of them and then the rest. -/
theorem after_drop (i n : ℕ) (V : Vals) :
    StableHlo.after (List.drop i (hostOps1 (F := Ideal))) V = StableHlo.after (List.drop (i + n) (hostOps1 (F := Ideal))) (seg i n V) := by
  rw [← List.drop_drop, ← StableHlo.after_append, List.take_append_drop]

/-- All the lines, stretch by stretch. -/
theorem after_all (V : Vals) : StableHlo.after (hostOps1 (F := Ideal)) V
    = seg 200 24 (seg 167 33 (seg 151 16 (seg 120 31 (seg 108 12 (seg 70 38 (seg 32 38 (seg 4 28 (seg 0 4 V)))))))) := by
  have e : StableHlo.after (List.drop 0 (hostOps1 (F := Ideal))) V = _ := after_drop 0 4 V
  rw [after_drop 4 28, after_drop 32 38, after_drop 70 38, after_drop 108 12, after_drop 120 31, after_drop 151 16, after_drop 167 33, after_drop 200 24] at e
  exact e

/-- The three results of the host lines. -/
theorem read_all (V : Vals) (T : RTab) (D : RData) (B : Base (seg 0 4 V) T D) :
    (StableHlo.after (hostOps1 (F := Ideal)) V (Proc.devRef .tc main_v221)
        = fun i : S2x864x64x256.Idx => vU (FloatOps.ofBits (F := Ideal) .f32 0x38000000#32) T (D.chan (i 1)) (i 0) (i 2) (i 3))
      ∧ (StableHlo.after (hostOps1 (F := Ideal)) V (Proc.devRef .tc main_v223)
        = fun i : S864x64x256.Idx => vK (FloatOps.ofBits (F := Ideal) .f32 0x38000000#32) T (D.chan (i 0)) (i 1) (i 2))
      ∧ (StableHlo.after (hostOps1 (F := Ideal)) V (Proc.devRef .tc main_v225) = fun i : S864x1x128.Idx => ((vQ (D.chan (i 0)) : ℝ) : EReal)) := by
  rw [after_all]
  generalize seg 0 4 V = V at B ⊢
  have h33 := segA_re V T D B
  have h38 := segA_im V T D B
  replace B := B.keep 4 28 (by decide +kernel)
  generalize seg 4 28 V = V at B h33 h38 ⊢
  have h71 := segB_re V T D B
  have h76 := segB_im V T D B
  replace B := B.keep 32 38 (by decide +kernel)
  replace h33 := (seg_keep 32 38 V main_v33 (by decide +kernel)).trans h33
  replace h38 := (seg_keep 32 38 V main_v38 (by decide +kernel)).trans h38
  generalize seg 32 38 V = V at B h33 h38 h71 h76 ⊢
  have h109 := segC_re V T D B
  have h114 := segC_im V T D B
  replace B := B.keep 70 38 (by decide +kernel)
  replace h33 := (seg_keep 70 38 V main_v33 (by decide +kernel)).trans h33
  replace h38 := (seg_keep 70 38 V main_v38 (by decide +kernel)).trans h38
  replace h71 := (seg_keep 70 38 V main_v71 (by decide +kernel)).trans h71
  replace h76 := (seg_keep 70 38 V main_v76 (by decide +kernel)).trans h76
  generalize seg 70 38 V = V at B h33 h38 h71 h76 h109 h114 ⊢
  have h119 := segD_re V T D h71 h76 h109 h114
  have h124 := segD_im V T D h71 h76 h109 h114
  replace B := B.keep 108 12 (by decide +kernel)
  replace h33 := (seg_keep 108 12 V main_v33 (by decide +kernel)).trans h33
  replace h38 := (seg_keep 108 12 V main_v38 (by decide +kernel)).trans h38
  replace h109 := (seg_keep 108 12 V main_v109 (by decide +kernel)).trans h109
  replace h114 := (seg_keep 108 12 V main_v114 (by decide +kernel)).trans h114
  clear h71 h76
  generalize seg 108 12 V = V at B h33 h38 h109 h114 h119 h124 ⊢
  have h154 := segE V T D B h119 h124
  replace B := B.keep 120 31 (by decide +kernel)
  replace h33 := (seg_keep 120 31 V main_v33 (by decide +kernel)).trans h33
  replace h38 := (seg_keep 120 31 V main_v38 (by decide +kernel)).trans h38
  replace h109 := (seg_keep 120 31 V main_v109 (by decide +kernel)).trans h109
  replace h114 := (seg_keep 120 31 V main_v114 (by decide +kernel)).trans h114
  clear h119 h124
  generalize seg 120 31 V = V at B h33 h38 h109 h114 h154 ⊢
  have h162 := segF_re V T D h33 h38 h109 h114
  have h170 := segF_im V T D h33 h38 h109 h114
  replace B := B.keep 151 16 (by decide +kernel)
  replace h154 := (seg_keep 151 16 V main_v154 (by decide +kernel)).trans h154
  clear h33 h38 h109 h114
  generalize seg 151 16 V = V at B h154 h162 h170 ⊢
  have h203 := segG V T D B h162 h170
  replace B := B.keep 167 33 (by decide +kernel)
  replace h154 := (seg_keep 167 33 V main_v154 (by decide +kernel)).trans h154
  clear h162 h170
  generalize seg 167 33 V = V at B h154 h203 ⊢
  exact ⟨segH_u V T D B h203, segH_k V T D h154, segH_q V T D B⟩

end Cert.ReferenceIdeal.Val

end
-- ==== Proof.RWide.lean ====
/- What the reference's host lines start from: the arguments, and the tables and data widened to bf16. -/
module

public import proofs.«01_k».proof.Proof.RBase
public import Idealize.ShloMosaic.Lib.Pipeline.ValueKit.Point

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft
open Idealize.ShloMosaic.Pipeline (Dat)

variable (m : (ℓ : Loc nD τ sig) → Buf (Elt Ideal) ℓ)

/-- Three zeros are the zero offset. -/
theorem zero3 : (![0, 0, 0] : Fin 3 → ℕ) = fun _ => 0 := by decide
/-- Two zeros are the zero offset. -/
theorem zero2 : (![0, 0] : Fin 2 → ℕ) = fun _ => 0 := by decide

/-- The block index of this window at every grid point. -/
theorem idx0 : ∀ t : Fin cfg0.N, win0_0.index t = ![0, 0, 0] := (by decide +kernel : ∀ t : Fin grid0.N, _)
/-- The block index of this window at every grid point. -/
theorem idx1 : ∀ t : Fin cfg0.N, win0_1.index t = ![0, 0, 0] := (by decide +kernel : ∀ t : Fin grid0.N, _)
/-- The block index of this window at every grid point. -/
theorem idx2 : ∀ t : Fin cfg0.N, win0_2.index t = ![0, 0] := (by decide +kernel : ∀ t : Fin grid0.N, _)
/-- The block index of this window at every grid point. -/
theorem idx3 : ∀ t : Fin cfg0.N, win0_3.index t = ![0, 0] := (by decide +kernel : ∀ t : Fin grid0.N, _)
/-- The block index of this window at every grid point. -/
theorem idx4 : ∀ t : Fin cfg0.N, win0_4.index t = ![0, 0] := (by decide +kernel : ∀ t : Fin grid0.N, _)
/-- The block index of this window at every grid point. -/
theorem idx5 : ∀ t : Fin cfg0.N, win0_5.index t = ![0, 0] := (by decide +kernel : ∀ t : Fin grid0.N, _)
/-- The block index of this window at every grid point. -/
theorem idx6 : ∀ t : Fin cfg0.N, win0_6.index t = ![0, 0, 0] := (by decide +kernel : ∀ t : Fin grid0.N, _)
/-- The block index of this window at every grid point. -/
theorem idx7 : ∀ t : Fin cfg0.N, win0_7.index t = ![0, 0, 0] := (by decide +kernel : ∀ t : Fin grid0.N, _)
/-- The block index of this window at every grid point. -/
theorem idx8 : ∀ t : Fin cfg0.N, win0_8.index t = ![0, 0] := (by decide +kernel : ∀ t : Fin grid0.N, _)
/-- The block index of this window at every grid point. -/
theorem idx9 : ∀ t : Fin cfg0.N, win0_9.index t = ![0, 0] := (by decide +kernel : ∀ t : Fin grid0.N, _)
/-- The block index of this window at every grid point. -/
theorem idx10 : ∀ t : Fin cfg0.N, win0_10.index t = ![0, 0] := (by decide +kernel : ∀ t : Fin grid0.N, _)
/-- The block index of this window at every grid point. -/
theorem idx11 : ∀ t : Fin cfg0.N, win0_11.index t = ![0, 0] := (by decide +kernel : ∀ t : Fin grid0.N, _)

section
variable (x0 : Vec Ideal S2x16384x864 .fp8e4m3) (x1 : Vec Ideal S2x16384x864 .fp8e5m2) (x2 x3 : Vec Ideal S512x512 .fp8e4m3) (x4 x5 : Vec Ideal S64x64 .fp8e4m3)

/-! Each store writes its input. -/

/-- The store to this output writes the input it widens. -/
theorem out_6 (y : S2x16384x864.Idx) : (out0_6 x0 x1 x2 x3 x4 x5 y : EReal) = x0 y := by
  unfold out0_6
  rw [View.canon_unit_zero zero3]
  unfold k0_pay1
  rw [View.ld_unit_zero zero3]
  pointwise

/-- The store to this output writes the input it widens. -/
theorem out_7 (y : S2x16384x864.Idx) : (out0_7 x0 x1 x2 x3 x4 x5 y : EReal) = x1 y := by
  unfold out0_7
  rw [View.canon_unit_zero zero3]
  unfold k0_pay2
  rw [View.ld_unit_zero zero3]
  pointwise

/-- The store to this output writes the input it widens. -/
theorem out_8 (y : S512x512.Idx) : (out0_8 x0 x1 x2 x3 x4 x5 y : EReal) = x2 y := by
  unfold out0_8
  rw [View.canon_unit_zero zero2]
  unfold k0_pay3
  rw [View.ld_unit_zero zero2]
  pointwise

/-- The store to this output writes the input it widens. -/
theorem out_9 (y : S512x512.Idx) : (out0_9 x0 x1 x2 x3 x4 x5 y : EReal) = x3 y := by
  unfold out0_9
  rw [View.canon_unit_zero zero2]
  unfold k0_pay4
  rw [View.ld_unit_zero zero2]
  pointwise

/-- The store to this output writes the input it widens. -/
theorem out_10 (y : S64x64.Idx) : (out0_10 x0 x1 x2 x3 x4 x5 y : EReal) = x4 y := by
  unfold out0_10
  rw [View.canon_unit_zero zero2]
  unfold k0_pay5
  rw [View.ld_unit_zero zero2]
  pointwise

/-- The store to this output writes the input it widens. -/
theorem out_11 (y : S64x64.Idx) : (out0_11 x0 x1 x2 x3 x4 x5 y : EReal) = x5 y := by
  unfold out0_11
  rw [View.canon_unit_zero zero2]
  unfold k0_pay6
  rw [View.ld_unit_zero zero2]
  pointwise

end

/-! The arrays after the region. -/

/-- The widened input, entry by entry: the number the byte denotes. -/
theorem wide_6 (c : Dev nD) : (dats m 0 c).arrAt 6 cfg0.N = fun i : S2x16384x864.Idx => (dec4 (m ((c : Thread nD τ).loc main_arg0) i) : EReal) := by
  refine (dats m 0 c).arrAt_eq_of_covers 6 _ (by decide +kernel) fun t hf y => ?_
  blk_simp
  rw [after0_6]
  refine (out_6 _ _ _ _ _ _ y).trans ?_
  have e : (win0_0.blk t).view.emb y = (win0_6.blk t).view.emb y := by blk_ext [idx0 t, idx6 t]
  blk_simp [iblk]
  rw [e]
  generalize (win0_6.blk t).view.emb y = z
  entry_read
  rfl

/-- The widened output gradient, entry by entry: the number the byte denotes. -/
theorem wide_7 (c : Dev nD) : (dats m 0 c).arrAt 7 cfg0.N = fun i : S2x16384x864.Idx => (dec5 (m ((c : Thread nD τ).loc main_arg2) i) : EReal) := by
  refine (dats m 0 c).arrAt_eq_of_covers 7 _ (by decide +kernel) fun t hf y => ?_
  blk_simp
  rw [after0_7]
  refine (out_7 _ _ _ _ _ _ y).trans ?_
  have e : (win0_1.blk t).view.emb y = (win0_7.blk t).view.emb y := by blk_ext [idx1 t, idx7 t]
  blk_simp [iblk]
  rw [e]
  generalize (win0_7.blk t).view.emb y = z
  entry_read
  rfl

/-- The widened first table, real part, entry by entry: the number the byte denotes. -/
theorem wide_8 (c : Dev nD) : (dats m 0 c).arrAt 8 cfg0.N = fun i : S512x512.Idx => (dec4 (m ((c : Thread nD τ).loc main_arg6) i) : EReal) := by
  refine (dats m 0 c).arrAt_eq_of_covers 8 _ (by decide +kernel) fun t hf y => ?_
  blk_simp
  rw [after0_8]
  refine (out_8 _ _ _ _ _ _ y).trans ?_
  have e : (win0_2.blk t).view.emb y = (win0_8.blk t).view.emb y := by blk_ext [idx2 t, idx8 t]
  blk_simp [iblk]
  rw [e]
  generalize (win0_8.blk t).view.emb y = z
  entry_read
  rfl

/-- The widened first table, imaginary part, entry by entry: the number the byte denotes. -/
theorem wide_9 (c : Dev nD) : (dats m 0 c).arrAt 9 cfg0.N = fun i : S512x512.Idx => (dec4 (m ((c : Thread nD τ).loc main_arg7) i) : EReal) := by
  refine (dats m 0 c).arrAt_eq_of_covers 9 _ (by decide +kernel) fun t hf y => ?_
  blk_simp
  rw [after0_9]
  refine (out_9 _ _ _ _ _ _ y).trans ?_
  have e : (win0_3.blk t).view.emb y = (win0_9.blk t).view.emb y := by blk_ext [idx3 t, idx9 t]
  blk_simp [iblk]
  rw [e]
  generalize (win0_9.blk t).view.emb y = z
  entry_read
  rfl

/-- The widened second table, real part, entry by entry: the number the byte denotes. -/
theorem wide_10 (c : Dev nD) : (dats m 0 c).arrAt 10 cfg0.N = fun i : S64x64.Idx => (dec4 (m ((c : Thread nD τ).loc main_arg8) i) : EReal) := by
  refine (dats m 0 c).arrAt_eq_of_covers 10 _ (by decide +kernel) fun t hf y => ?_
  blk_simp
  rw [after0_10]
  refine (out_10 _ _ _ _ _ _ y).trans ?_
  have e : (win0_4.blk t).view.emb y = (win0_10.blk t).view.emb y := by blk_ext [idx4 t, idx10 t]
  blk_simp [iblk]
  rw [e]
  generalize (win0_10.blk t).view.emb y = z
  entry_read
  rfl

/-- The widened second table, imaginary part, entry by entry: the number the byte denotes. -/
theorem wide_11 (c : Dev nD) : (dats m 0 c).arrAt 11 cfg0.N = fun i : S64x64.Idx => (dec4 (m ((c : Thread nD τ).loc main_arg9) i) : EReal) := by
  refine (dats m 0 c).arrAt_eq_of_covers 11 _ (by decide +kernel) fun t hf y => ?_
  blk_simp
  rw [after0_11]
  refine (out_11 _ _ _ _ _ _ y).trans ?_
  have e : (win0_5.blk t).view.emb y = (win0_11.blk t).view.emb y := by blk_ext [idx5 t, idx11 t]
  blk_simp [iblk]
  rw [e]
  generalize (win0_11.blk t).view.emb y = z
  entry_read
  rfl

end Cert.ReferenceIdeal.Val

end
-- ==== Proof.Data.lean ====
/- The real numbers the argument arrays hold: the bytes decoded, the floats read as reals. -/
module

public import proofs.«01_k».proof.Proof.RBase

@[expose] public section

noncomputable section

namespace Cert.Dft

/-- The real tables of the table arrays. -/
def tabR (a6 a7 : Fin 512 → Fin 512 → BitVec 8) (a8 a9 : Fin 64 → Fin 64 → BitVec 8) (a10 a11 : Fin 512 → Fin 64 → EReal) : RTab where
  fr m J := (dec4 (a6 J ⟨m, by omega⟩)).toReal
  fi m J := (dec4 (a7 J ⟨m, by omega⟩)).toReal
  ir J m := (dec4 (a6 ⟨m, by omega⟩ J)).toReal
  ii J m := (dec4 (a7 ⟨m, by omega⟩ J)).toReal
  gr k n := (dec4 (a8 k n)).toReal
  gi k n := (dec4 (a9 k n)).toReal
  tr n J := (a10 J n).toReal
  ti n J := (a11 J n).toReal

/-- The real data of the data arrays. -/
def dataR (a0 a2 : Fin 2 → Fin 16384 → Fin 864 → BitVec 8) (a1 a3 : Fin 2 → Fin 864 → EReal) (a4 : Fin 16384 → Fin 864 → EReal)
    (a5 : Fin 864 → EReal) : RData where
  u b t h := (dec4 (a0 b t h)).toReal
  y b t h := (dec5 (a2 b t h)).toReal
  k t h := (a4 t h).toReal
  us b h := (a1 b h).toReal
  ds b h := (a3 b h).toReal
  d h := a5 h

/-- Tables that hold real numbers only are the extended real form of their real tables. -/
theorem tabR_toE (a6 a7 : Fin 512 → Fin 512 → BitVec 8) (a8 a9 : Fin 64 → Fin 64 → BitVec 8) (a10 a11 : Fin 512 → Fin 64 → EReal)
    (h6 : ∀ i j, ((dec4 (a6 i j)).toReal : EReal) = dec4 (a6 i j)) (h7 : ∀ i j, ((dec4 (a7 i j)).toReal : EReal) = dec4 (a7 i j))
    (h8 : ∀ i j, ((dec4 (a8 i j)).toReal : EReal) = dec4 (a8 i j)) (h9 : ∀ i j, ((dec4 (a9 i j)).toReal : EReal) = dec4 (a9 i j))
    (h10 : ∀ i j, ((a10 i j).toReal : EReal) = a10 i j) (h11 : ∀ i j, ((a11 i j).toReal : EReal) = a11 i j) :
    (tabR a6 a7 a8 a9 a10 a11).toE = tabOf a6 a7 a8 a9 a10 a11 := by
  unfold tabR tabOf RTab.toE
  simp only [h6, h7, h8, h9, h10, h11]

/-- A channel of data that hold real numbers only is the extended real form of its real channel. -/
theorem dataR_toE (a0 a2 : Fin 2 → Fin 16384 → Fin 864 → BitVec 8) (a1 a3 : Fin 2 → Fin 864 → EReal) (a4 : Fin 16384 → Fin 864 → EReal)
    (a5 : Fin 864 → EReal) (h0 : ∀ i j k, ((dec4 (a0 i j k)).toReal : EReal) = dec4 (a0 i j k))
    (h2 : ∀ i j k, ((dec5 (a2 i j k)).toReal : EReal) = dec5 (a2 i j k)) (h1 : ∀ i j, ((a1 i j).toReal : EReal) = a1 i j)
    (h3 : ∀ i j, ((a3 i j).toReal : EReal) = a3 i j) (h4 : ∀ i j, ((a4 i j).toReal : EReal) = a4 i j) (h : Fin 864) :
    ((dataR a0 a2 a1 a3 a4 a5).chan h).toE = chanOf a0 a2 a1 a3 a4 a5 h := by
  unfold dataR chanOf RData.chan RChan.toE
  simp only [h0, h1, h2, h3, h4]

end Cert.Dft

end
-- ==== Proof.Fin.lean ====
/- What the precondition gives: no byte is a NaN or an infinity, no float is infinite. -/
module

public import proofs.«01_k».proof.Proof.RBase
public import proofs.«01_k».proof.Pre_finite

@[expose] public section

set_option maxRecDepth 16384

noncomputable section

namespace Cert.Pre_finite

open Idealize.ShloMosaic

/-- The side conditions of the precondition's operations. -/
instance facts : Facts where
  bcast_S_S2x16384x864 := by decide
  reducesTo_S2x16384x864_S_d0_1_2 := by decide
  h_S_ := by decide
  bcast_S_S2x864 := by decide
  reducesTo_S2x864_S_d0_1 := by decide
  bcast_S_S16384x864 := by decide
  reducesTo_S16384x864_S_d0_1 := by decide
  bcast_S_S512x512 := by decide
  reducesTo_S512x512_S_d0_1 := by decide
  bcast_S_S64x64 := by decide
  reducesTo_S64x64_S_d0_1 := by decide
  bcast_S_S512x64 := by decide
  reducesTo_S512x64_S_d0_1 := by decide

/-- A conjunction of two bits is one only if both are. -/
theorem and_one (a b : BitVec 1) : IntOp.andi a b = 1#1 → a = 1#1 ∧ b = 1#1 := by
  revert a b
  decide

/-- A disjunction of two bits is one only if one of them is. -/
theorem or_one (a b : BitVec 1) : IntOp.ori a b = 1#1 → a = 1#1 ∨ b = 1#1 := by
  revert a b
  decide

/-- A conjunction along a list is one only if its start and every term are. -/
theorem foldl_and {ι : Type*} (g : ι → BitVec 1) (l : List ι) (b : BitVec 1) (h : l.foldl (fun r n => IntOp.andi r (g n)) b = 1#1) :
    b = 1#1 ∧ ∀ n ∈ l, g n = 1#1 := by
  induction l generalizing b with
  | nil => exact ⟨h, fun _ hn => absurd hn List.not_mem_nil⟩
  | cons a l ih =>
    obtain ⟨hb, hl⟩ := ih _ h
    obtain ⟨h1, h2⟩ := and_one _ _ hb
    exact ⟨h1, fun n hn => (List.mem_cons.mp hn).elim (fun e => e ▸ h2) (hl n)⟩

/-- A conjunction over all of an array is one only if every element is. -/
theorem reduce_one {s : Shape} {axes : List (Fin s.rank)} (x : IVec s 1) (v : IVec S_ 1) (h : s.ReducesTo axes S_) (hu : 0 < S_.numel)
    (e : Host.reduce IntOp.andi x v h hu = fun _ => 1#1) (i : s.Idx) : x i = 1#1 := by
  have j : S_.Idx := fun a => a.elim0
  have h1 := (foldl_and _ _ _ (congrFun e j)).2 (s.rowMajor i) (List.mem_filter.mpr ⟨List.mem_finRange _, decide_eq_true (funext fun a => a.elim0)⟩)
  rwa [Equiv.symm_apply_apply] at h1

/-- A conjunction of two arrays is all ones only if both are. -/
theorem andi_one {s : Shape} (a b : IVec s 1) (e : andi a b = fun _ => 1#1) : (a = fun _ => 1#1) ∧ (b = fun _ => 1#1) :=
  ⟨funext fun i => (and_one _ _ (congrFun e i)).1, funext fun i => (and_one _ _ (congrFun e i)).2⟩

/-- A number below infinity in absolute value is a real one. -/
theorem real_of_lt (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have ht : (Ideal.ofBits .f32 0x7F800000#32 : EReal) = ⊤ := by simp [Ideal.ofBits, Ideal.ieee]
  have h2 : max x (-x) < ⊤ := by
    have h3 : BitVec.ofBool (decide (max x (-x) < Ideal.ofBits .f32 0x7F800000#32)) = 1#1 := h
    rw [ht] at h3
    by_contra hc
    rw [decide_eq_false hc] at h3
    exact absurd h3 (by decide)
  refine EReal.coe_toReal (fun e => ?_) fun e => ?_
  · rw [e] at h2
    exact absurd h2 (by simp)
  · rw [e] at h2
    exact absurd h2 (by simp)

/-- A byte that is no NaN of the format denotes a real number. -/
theorem real4 (b : BitVec 8) (h1 : b ≠ 127#8) (h2 : b ≠ 255#8) : (((Dft.dec4 b : EReal).toReal : ℝ) : EReal) = Dft.dec4 b := by
  have hn : ∀ b : BitVec 8, (b.extractLsb' 3 4).toNat = 15 ∧ (b.extractLsb' 0 3).toNat = 7 → b = 127#8 ∨ b = 255#8 := by decide
  obtain ⟨r, hr⟩ : ∃ r : ℝ, (Dft.dec4 b : EReal) = r := by
    show ∃ r : ℝ, Ideal.e4m3fn b = r
    unfold Ideal.e4m3fn
    dsimp only
    rw [if_neg fun e => (hn b e).elim h1 h2]
    split
    · exact ⟨_, rfl⟩
    · exact ⟨_, rfl⟩
  rw [hr, EReal.toReal_coe]

/-- A byte that is no NaN and no infinity of the format denotes a real number. -/
theorem real5 (b : BitVec 8) (h : IntOp.cmpi .ult b 124#8 = 1#1 ∨ (IntOp.cmpi .uge b 128#8 = 1#1 ∧ IntOp.cmpi .ult b 252#8 = 1#1)) :
    (((Dft.dec5 b : EReal).toReal : ℝ) : EReal) = Dft.dec5 b := by
  have hn : ∀ b : BitVec 8, (IntOp.cmpi .ult b 124#8 = 1#1 ∨ (IntOp.cmpi .uge b 128#8 = 1#1 ∧ IntOp.cmpi .ult b 252#8 = 1#1)) →
    ¬ (b.extractLsb' 2 5).toNat = 2 ^ 5 - 1 := by decide
  obtain ⟨r, hr⟩ : ∃ r : ℝ, (Dft.dec5 b : EReal) = r := by
    show ∃ r : ℝ, Ideal.ieee 5 2 b = r
    unfold Ideal.ieee
    dsimp only
    rw [if_neg (hn b h)]
    split
    · exact ⟨_, rfl⟩
    · exact ⟨_, rfl⟩
  rw [hr, EReal.toReal_coe]

/-- Bytes that the test for difference tells apart are different. -/
theorem byte_one (b c : BitVec 8) (h : IntOp.cmpi .ne b c = 1#1) : b ≠ c := fun e => by
  have hn : ∀ c : BitVec 8, IntOp.cmpi .ne c c = 1#1 → False := by decide
  exact hn c (e ▸ h)

/-- An array of bytes that passes the test for the one format holds real numbers. -/
theorem bytes4 {s : Shape} {axes : List (Fin s.rank)} (x c1 c2 : IVec s 8) (v : IVec S_ 1) (h : s.ReducesTo axes S_) (hu : 0 < S_.numel)
    (e : Host.reduce IntOp.andi (andi (cmpi .ne x c1) (cmpi .ne x c2)) v h hu = fun _ => 1#1) (hc1 : ∀ i, c1 i = 127#8) (hc2 : ∀ i, c2 i = 255#8) (i : s.Idx) :
    (((Dft.dec4 (x i) : EReal).toReal : ℝ) : EReal) = Dft.dec4 (x i) := by
  obtain ⟨h1, h2⟩ := and_one _ _ (reduce_one _ v h hu e i)
  exact real4 _ (fun k => byte_one _ _ h1 (k.trans (hc1 i).symm)) fun k => byte_one _ _ h2 (k.trans (hc2 i).symm)

/-- An array of bytes that passes the test for the other format holds real numbers. -/
theorem bytes5 {s : Shape} {axes : List (Fin s.rank)} (x c1 c2 c3 : IVec s 8) (v : IVec S_ 1) (h : s.ReducesTo axes S_) (hu : 0 < S_.numel)
    (e : Host.reduce IntOp.andi (ori (cmpi .ult x c1) (andi (cmpi .uge x c2) (cmpi .ult x c3))) v h hu = fun _ => 1#1)
    (hc1 : ∀ i, c1 i = 124#8) (hc2 : ∀ i, c2 i = 128#8) (hc3 : ∀ i, c3 i = 252#8) (i : s.Idx) :
    (((Dft.dec5 (x i) : EReal).toReal : ℝ) : EReal) = Dft.dec5 (x i) := by
  refine real5 _ ?_
  rw [← hc1 i, ← hc2 i, ← hc3 i]
  exact (or_one _ _ (reduce_one _ v h hu e i)).imp id (and_one _ _)

/-- An array of floats that passes the test holds real numbers. -/
theorem floats {s : Shape} {axes : List (Fin s.rank)} (x c : FVec Ideal s .f32) (v : IVec S_ 1) (h : s.ReducesTo axes S_) (hu : 0 < S_.numel)
    (e : Host.reduce IntOp.andi (cmpf .olt (Host.absf x) c) v h hu = fun _ => 1#1) (hc : ∀ i, c i = FloatOps.ofBits (F := Ideal) .f32 0x7F800000#32) (i : s.Idx) :
    (((x i : EReal).toReal : ℝ) : EReal) = x i := by
  refine real_of_lt (x i) ?_
  rw [← hc i]
  exact reduce_one _ v h hu e i

/-- The arguments hold real numbers, but for the skip weight. -/
structure Real (a0 : IVec S2x16384x864 8) (a1 : FVec Ideal S2x864 .f32) (a2 : IVec S2x16384x864 8) (a3 : FVec Ideal S2x864 .f32)
    (a4 : FVec Ideal S16384x864 .f32) (a6 a7 : IVec S512x512 8) (a8 a9 : IVec S64x64 8) (a10 a11 : FVec Ideal S512x64 .f32) : Prop where
  r0 : ∀ i, (((Dft.dec4 (a0 i) : EReal).toReal : ℝ) : EReal) = Dft.dec4 (a0 i)
  r1 : ∀ i, (((a1 i : EReal).toReal : ℝ) : EReal) = a1 i
  r2 : ∀ i, (((Dft.dec5 (a2 i) : EReal).toReal : ℝ) : EReal) = Dft.dec5 (a2 i)
  r3 : ∀ i, (((a3 i : EReal).toReal : ℝ) : EReal) = a3 i
  r4 : ∀ i, (((a4 i : EReal).toReal : ℝ) : EReal) = a4 i
  r6 : ∀ i, (((Dft.dec4 (a6 i) : EReal).toReal : ℝ) : EReal) = Dft.dec4 (a6 i)
  r7 : ∀ i, (((Dft.dec4 (a7 i) : EReal).toReal : ℝ) : EReal) = Dft.dec4 (a7 i)
  r8 : ∀ i, (((Dft.dec4 (a8 i) : EReal).toReal : ℝ) : EReal) = Dft.dec4 (a8 i)
  r9 : ∀ i, (((Dft.dec4 (a9 i) : EReal).toReal : ℝ) : EReal) = Dft.dec4 (a9 i)
  r10 : ∀ i, (((a10 i : EReal).toReal : ℝ) : EReal) = a10 i
  r11 : ∀ i, (((a11 i : EReal).toReal : ℝ) : EReal) = a11 i

/-- Arguments of which the precondition holds are real numbers, but for the skip weight. -/
theorem real_of_fn (a0 : IVec S2x16384x864 8) (a1 : FVec Ideal S2x864 .f32) (a2 : IVec S2x16384x864 8) (a3 : FVec Ideal S2x864 .f32)
    (a4 : FVec Ideal S16384x864 .f32) (a5 : FVec Ideal S864 .f32) (a6 a7 : IVec S512x512 8) (a8 a9 : IVec S64x64 8) (a10 a11 : FVec Ideal S512x64 .f32)
    (h : fn (F := Ideal) a0 a1 a2 a3 a4 a5 a6 a7 a8 a9 a10 a11 = fun _ => 1#1) : Real a0 a1 a2 a3 a4 a6 a7 a8 a9 a10 a11 := by
  unfold fn fn_part1 fn_part2 fn_part3 fn_part4 at h
  obtain ⟨h, h11⟩ := andi_one _ _ h
  obtain ⟨h, h10⟩ := andi_one _ _ h
  obtain ⟨h, h9⟩ := andi_one _ _ h
  obtain ⟨h, h8⟩ := andi_one _ _ h
  obtain ⟨h, h7⟩ := andi_one _ _ h
  obtain ⟨h, h6⟩ := andi_one _ _ h
  obtain ⟨h, h4⟩ := andi_one _ _ h
  obtain ⟨h, h3⟩ := andi_one _ _ h
  obtain ⟨h, h2⟩ := andi_one _ _ h
  obtain ⟨h0, h1⟩ := andi_one _ _ h
  exact {
    r0 := bytes4 _ _ _ _ _ _ h0 (fun _ => rfl) fun _ => rfl
    r1 := floats _ _ _ _ _ h1 fun _ => rfl
    r2 := bytes5 _ _ _ _ _ _ _ h2 (fun _ => rfl) (fun _ => rfl) fun _ => rfl
    r3 := floats _ _ _ _ _ h3 fun _ => rfl
    r4 := floats _ _ _ _ _ h4 fun _ => rfl
    r6 := bytes4 _ _ _ _ _ _ h6 (fun _ => rfl) fun _ => rfl
    r7 := bytes4 _ _ _ _ _ _ h7 (fun _ => rfl) fun _ => rfl
    r8 := bytes4 _ _ _ _ _ _ h8 (fun _ => rfl) fun _ => rfl
    r9 := bytes4 _ _ _ _ _ _ h9 (fun _ => rfl) fun _ => rfl
    r10 := floats _ _ _ _ _ h10 fun _ => rfl
    r11 := floats _ _ _ _ _ h11 fun _ => rfl }

end Cert.Pre_finite

end
-- ==== Proof.RRun.lean ====
/- The reference's run: its three results as functions of the real numbers its arguments hold. -/
module

public import proofs.«01_k».proof.Proof.RChain
public import proofs.«01_k».proof.Proof.RWide
public import proofs.«01_k».proof.Proof.Data
public import proofs.«01_k».proof.Proof.Fin

@[expose] public section

set_option maxRecDepth 16384

noncomputable section

namespace Cert.ReferenceIdeal.Val

open Cert.ReferenceIdeal Cert.ReferenceIdeal.Gen Idealize.ShloMosaic Idealize.ShloMosaic.TcCoe Idealize.SL.Sem Cert.Dft

variable (m : (ℓ : Loc nD τ sig) → Buf (Elt Ideal) ℓ) (ρ : Dev nD → PrngReg)

/-- The argument arrays hold real numbers only (all but the skip weight's). -/
abbrev RealArgs (c : Dev nD) : Prop :=
  Cert.Pre_finite.Real (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The real tables of the program's arguments. -/
def tabV (c : Dev nD) : RTab :=
  tabR (fun i j => m ((c : Thread nD τ).loc main_arg6) (ix2 i j)) (fun i j => m ((c : Thread nD τ).loc main_arg7) (ix2 i j))
    (fun i j => m ((c : Thread nD τ).loc main_arg8) (ix2 i j)) (fun i j => m ((c : Thread nD τ).loc main_arg9) (ix2 i j))
    (fun i j => m ((c : Thread nD τ).loc main_arg10) (ix2 i j)) (fun i j => m ((c : Thread nD τ).loc main_arg11) (ix2 i j))

/-- The real data of the program's arguments. -/
def dataV (c : Dev nD) : RData :=
  dataR (fun i j k => m ((c : Thread nD τ).loc main_arg0) (ix3 i j k)) (fun i j k => m ((c : Thread nD τ).loc main_arg2) (ix3 i j k))
    (fun i j => m ((c : Thread nD τ).loc main_arg1) (ix2 i j)) (fun i j => m ((c : Thread nD τ).loc main_arg3) (ix2 i j))
    (fun i j => m ((c : Thread nD τ).loc main_arg4) (ix2 i j)) (fun i => m ((c : Thread nD τ).loc main_arg5) (ix1 i))

/-- The buffers as the region leaves them. -/
def exitV (c : Dev nD) : Vals :=
  Pipeline.withArrays (cfgs 0).spec c (V0 m c) fun w => (dats m 0 c).arrAt w (cfgs 0).N

/-- The region's windows are of different arrays. -/
theorem inj0 : Function.Injective (Pipeline.arrRef spec0) := by decide

/-- The input as the region leaves it, widened. -/
theorem exit_6 (c : Dev nD) : exitV m c (Proc.devRef .tc main_v6_0) = fun i : S2x16384x864.Idx => (dec4 (m ((c : Thread nD τ).loc main_arg0) i) : EReal) :=
  (Pipeline.withArrays_arr spec0 inj0 c (V0 m c) (fun w => (dats m 0 c).arrAt w (cfgs 0).N) 6).trans (wide_6 m c)
/-- The output gradient as the region leaves it, widened. -/
theorem exit_7 (c : Dev nD) : exitV m c (Proc.devRef .tc main_v6_1) = fun i : S2x16384x864.Idx => (dec5 (m ((c : Thread nD τ).loc main_arg2) i) : EReal) :=
  (Pipeline.withArrays_arr spec0 inj0 c (V0 m c) (fun w => (dats m 0 c).arrAt w (cfgs 0).N) 7).trans (wide_7 m c)
/-- The first table's real part as the region leaves it, widened. -/
theorem exit_8 (c : Dev nD) : exitV m c (Proc.devRef .tc main_v6_2) = fun i : S512x512.Idx => (dec4 (m ((c : Thread nD τ).loc main_arg6) i) : EReal) :=
  (Pipeline.withArrays_arr spec0 inj0 c (V0 m c) (fun w => (dats m 0 c).arrAt w (cfgs 0).N) 8).trans (wide_8 m c)
/-- The first table's imaginary part as the region leaves it, widened. -/
theorem exit_9 (c : Dev nD) : exitV m c (Proc.devRef .tc main_v6_3) = fun i : S512x512.Idx => (dec4 (m ((c : Thread nD τ).loc main_arg7) i) : EReal) :=
  (Pipeline.withArrays_arr spec0 inj0 c (V0 m c) (fun w => (dats m 0 c).arrAt w (cfgs 0).N) 9).trans (wide_9 m c)
/-- The second table's real part as the region leaves it, widened. -/
theorem exit_10 (c : Dev nD) : exitV m c (Proc.devRef .tc main_v6_4) = fun i : S64x64.Idx => (dec4 (m ((c : Thread nD τ).loc main_arg8) i) : EReal) :=
  (Pipeline.withArrays_arr spec0 inj0 c (V0 m c) (fun w => (dats m 0 c).arrAt w (cfgs 0).N) 10).trans (wide_10 m c)
/-- The second table's imaginary part as the region leaves it, widened. -/
theorem exit_11 (c : Dev nD) : exitV m c (Proc.devRef .tc main_v6_5) = fun i : S64x64.Idx => (dec4 (m ((c : Thread nD τ).loc main_arg9) i) : EReal) :=
  (Pipeline.withArrays_arr spec0 inj0 c (V0 m c) (fun w => (dats m 0 c).arrAt w (cfgs 0).N) 11).trans (wide_11 m c)
/-- The region leaves this argument alone. -/
theorem exit_arg1 (c : Dev nD) : exitV m c (Proc.devRef .tc main_arg1) = m ((c : Thread nD τ).loc main_arg1) :=
  (Pipeline.withArrays_of_ne spec0 c (V0 m c) _ main_arg1 (by exact (by decide : ∀ w, Pipeline.arrRef spec0 w ≠ main_arg1))).trans (V_main_arg1 m c)
/-- The region leaves this argument alone. -/
theorem exit_arg3 (c : Dev nD) : exitV m c (Proc.devRef .tc main_arg3) = m ((c : Thread nD τ).loc main_arg3) :=
  (Pipeline.withArrays_of_ne spec0 c (V0 m c) _ main_arg3 (by exact (by decide : ∀ w, Pipeline.arrRef spec0 w ≠ main_arg3))).trans (V_main_arg3 m c)
/-- The region leaves this argument alone. -/
theorem exit_arg4 (c : Dev nD) : exitV m c (Proc.devRef .tc main_arg4) = m ((c : Thread nD τ).loc main_arg4) :=
  (Pipeline.withArrays_of_ne spec0 c (V0 m c) _ main_arg4 (by exact (by decide : ∀ w, Pipeline.arrRef spec0 w ≠ main_arg4))).trans (V_main_arg4 m c)
/-- The region leaves this argument alone. -/
theorem exit_arg5 (c : Dev nD) : exitV m c (Proc.devRef .tc main_arg5) = m ((c : Thread nD τ).loc main_arg5) :=
  (Pipeline.withArrays_of_ne spec0 c (V0 m c) _ main_arg5 (by exact (by decide : ∀ w, Pipeline.arrRef spec0 w ≠ main_arg5))).trans (V_main_arg5 m c)
/-- The region leaves this argument alone. -/
theorem exit_arg10 (c : Dev nD) : exitV m c (Proc.devRef .tc main_arg10) = m ((c : Thread nD τ).loc main_arg10) :=
  (Pipeline.withArrays_of_ne spec0 c (V0 m c) _ main_arg10 (by exact (by decide : ∀ w, Pipeline.arrRef spec0 w ≠ main_arg10))).trans (V_main_arg10 m c)
/-- The region leaves this argument alone. -/
theorem exit_arg11 (c : Dev nD) : exitV m c (Proc.devRef .tc main_arg11) = m ((c : Thread nD τ).loc main_arg11) :=
  (Pipeline.withArrays_of_ne spec0 c (V0 m c) _ main_arg11 (by exact (by decide : ∀ w, Pipeline.arrRef spec0 w ≠ main_arg11))).trans (V_main_arg11 m c)

/-- What the lines after the four slices start from. -/
theorem base (c : Dev nD) (R : RealArgs m c) : Base (seg 0 4 (exitV m c)) (tabV m c) (dataV m c) where
  g1r := by
    after_reads_simp
    rw [exit_8]
    funext i
    idx_vars i
    pointwise
    exact (R.r6 _).symm
  g1i := by
    after_reads_simp
    rw [exit_9]
    funext i
    idx_vars i
    pointwise
    exact (R.r7 _).symm
  i1r := by
    after_reads_simp
    rw [exit_8]
    funext i
    idx_vars i
    pointwise
    exact (R.r6 _).symm
  i1i := by
    after_reads_simp
    rw [exit_9]
    funext i
    idx_vars i
    pointwise
    exact (R.r7 _).symm
  g2r := by
    refine (seg_keep 0 4 (exitV m c) main_v6_4 (by decide +kernel)).trans ?_
    rw [exit_10]
    funext i
    idx_vars i
    exact (R.r8 _).symm
  g2i := by
    refine (seg_keep 0 4 (exitV m c) main_v6_5 (by decide +kernel)).trans ?_
    rw [exit_11]
    funext i
    idx_vars i
    exact (R.r9 _).symm
  twr := by
    refine (seg_keep 0 4 (exitV m c) main_arg10 (by decide +kernel)).trans ?_
    rw [exit_arg10]
    funext i
    idx_vars i
    exact (R.r10 _).symm
  twi := by
    refine (seg_keep 0 4 (exitV m c) main_arg11 (by decide +kernel)).trans ?_
    rw [exit_arg11]
    funext i
    idx_vars i
    exact (R.r11 _).symm
  u := by
    refine (seg_keep 0 4 (exitV m c) main_v6_0 (by decide +kernel)).trans ?_
    rw [exit_6]
    funext i
    idx_vars i
    exact (R.r0 _).symm
  y := by
    refine (seg_keep 0 4 (exitV m c) main_v6_1 (by decide +kernel)).trans ?_
    rw [exit_7]
    funext i
    idx_vars i
    exact (R.r2 _).symm
  k := by
    refine (seg_keep 0 4 (exitV m c) main_arg4 (by decide +kernel)).trans ?_
    rw [exit_arg4]
    funext i
    idx_vars i
    exact (R.r4 _).symm
  us := by
    refine (seg_keep 0 4 (exitV m c) main_arg1 (by decide +kernel)).trans ?_
    rw [exit_arg1]
    funext i
    idx_vars i
    exact (R.r1 _).symm
  ds := by
    refine (seg_keep 0 4 (exitV m c) main_arg3 (by decide +kernel)).trans ?_
    rw [exit_arg3]
    funext i
    idx_vars i
    exact (R.r3 _).symm
  d := by
    refine (seg_keep 0 4 (exitV m c) main_arg5 (by decide +kernel)).trans ?_
    rw [exit_arg5]
    funext i
    idx_vars i
    rfl

/-- What the host lines leave in the three result buffers. -/
theorem read_tail (c : Dev nD) (R : RealArgs m c) :
    (Pipeline.afterTail₀ cfgs (dats m) 0 (V0 m) [hostOps1] c main_v221 = fun i : S2x864x64x256.Idx => vU (FloatOps.ofBits (F := Ideal) .f32 0x38000000#32) (tabV m c) ((dataV m c).chan (i 1)) (i 0) (i 2) (i 3))
      ∧ (Pipeline.afterTail₀ cfgs (dats m) 0 (V0 m) [hostOps1] c main_v223 = fun i : S864x64x256.Idx => vK (FloatOps.ofBits (F := Ideal) .f32 0x38000000#32) (tabV m c) ((dataV m c).chan (i 0)) (i 1) (i 2))
      ∧ (Pipeline.afterTail₀ cfgs (dats m) 0 (V0 m) [hostOps1] c main_v225 = fun i : S864x1x128.Idx => ((vQ ((dataV m c).chan (i 0)) : ℝ) : EReal)) := by
  unfold Pipeline.afterTail₀
  rw [List.flatten_cons, List.flatten_nil, List.append_nil]
  exact read_all (exitV m c) (tabV m c) (dataV m c) (base m c R)

/-- The run: the three results, and the arguments unchanged. -/
theorem run_results (R : ∀ c, RealArgs m c) :
    θ_run defs (onTc (τ := τ) (main (F := Ideal))) ⟨m, fun _ => 0, ρ⟩ fun r => ∀ c : Dev nD,
      r.2.mem ((c : Thread nD τ).loc main_v221) = (fun i : S2x864x64x256.Idx => vU (FloatOps.ofBits (F := Ideal) .f32 0x38000000#32) (tabV m c) ((dataV m c).chan (i 1)) (i 0) (i 2) (i 3))
      ∧ r.2.mem ((c : Thread nD τ).loc main_v223) = (fun i : S864x64x256.Idx => vK (FloatOps.ofBits (F := Ideal) .f32 0x38000000#32) (tabV m c) ((dataV m c).chan (i 0)) (i 1) (i 2))
      ∧ r.2.mem ((c : Thread nD τ).loc main_v225) = (fun i : S864x1x128.Idx => ((vQ ((dataV m c).chan (i 0)) : ℝ) : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨
      ((h c).2 main_v221 (Pipeline.mem_restRefs_of main_v221 (by decide) (by decide))).trans (read_tail m c (R c)).1,
      ((h c).2 main_v223 (Pipeline.mem_restRefs_of main_v223 (by decide) (by decide))).trans (read_tail m c (R c)).2.1,
      ((h c).2 main_v225 (Pipeline.mem_restRefs_of main_v225 (by decide) (by decide))).trans (read_tail m c (R c)).2.2,
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

end Cert.ReferenceIdeal.Val

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Frame
public import proofs.«01_k».proof.Proof.KRun
public import proofs.«01_k».proof.Proof.RRun
public import Idealize.ShloMosaic.Adequacy
public import Idealize.ShloMosaic.Init
public import Idealize.ShloMosaic.Lib.Claim

@[expose] public section

set_option maxRecDepth 16384

noncomputable section

namespace Cert.Proof

open Idealize.ShloMosaic Idealize.ShloMosaic.TcCoe Idealize.SL.Sem Cert.Dft

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The two memories hold the same arguments on a device. -/
def Agree (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)

variable {m m'}

/-- Under the precondition the reference's arguments hold real numbers only. -/
theorem realArgs (hpre : Cert.Pre_KernelIdeal_finite m) (c : Dev Cert.KernelIdeal.nD) (h : Agree m m' c) : Cert.ReferenceIdeal.Val.RealArgs m' c := by
  have R := Cert.Pre_finite.real_of_fn _ _ _ _ _ _ _ _ _ _ _ _ (hpre c)
  obtain ⟨h0, h1, h2, h3, h4, _, h6, h7, h8, h9, h10, h11⟩ := h
  unfold Cert.ReferenceIdeal.Val.RealArgs
  rw [h0, h1, h2, h3, h4, h6, h7, h8, h9, h10, h11]
  exact R

/-- The kernel's tables are the reference's real tables. -/
theorem tab_eq (c : Dev Cert.KernelIdeal.nD) (h : Agree m m' c) (R : Cert.ReferenceIdeal.Val.RealArgs m' c) :
    Cert.KernelIdeal.Val.tabM m c = (Cert.ReferenceIdeal.Val.tabV m' c).toE := by
  unfold Cert.KernelIdeal.Val.tabM Cert.ReferenceIdeal.Val.tabV
  rw [tabR_toE _ _ _ _ _ _ (fun i j => R.r6 _) (fun i j => R.r7 _) (fun i j => R.r8 _) (fun i j => R.r9 _) (fun i j => R.r10 _) (fun i j => R.r11 _)]
  obtain ⟨_, _, _, _, _, _, h6, h7, h8, h9, h10, h11⟩ := h
  rw [h6, h7, h8, h9, h10, h11]

/-- The kernel's channels are the reference's real channels. -/
theorem chan_eq (c : Dev Cert.KernelIdeal.nD) (h : Agree m m' c) (R : Cert.ReferenceIdeal.Val.RealArgs m' c) (ch : Fin 864) :
    Cert.KernelIdeal.Val.chanM m c ch = ((Cert.ReferenceIdeal.Val.dataV m' c).chan ch).toE := by
  unfold Cert.KernelIdeal.Val.chanM Cert.ReferenceIdeal.Val.dataV
  rw [dataR_toE _ _ _ _ _ _ (fun i j k => R.r0 _) (fun i j k => R.r2 _) (fun i j => R.r1 _) (fun i j => R.r3 _) (fun i j => R.r4 _)]
  obtain ⟨h0, h1, h2, h3, h4, h5, _⟩ := h
  rw [h0, h1, h2, h3, h4, h5]

/-- The kernel's input gradient is the reference's. -/
theorem res_u (c : Dev Cert.KernelIdeal.nD) (h : Agree m m' c) (R : Cert.ReferenceIdeal.Val.RealArgs m' c) :
    (Cert.KernelIdeal.Gen.dats m 0 c).arrAt 12 Cert.KernelIdeal.cfg0.N
      = fun i : Cert.KernelIdeal.S2x864x64x256.Idx => vU (FloatOps.ofBits (F := Ideal) .f32 0x38000000#32) (Cert.ReferenceIdeal.Val.tabV m' c)
          ((Cert.ReferenceIdeal.Val.dataV m' c).chan (i 1)) (i 0) (i 2) (i 3) := by
  rw [Cert.KernelIdeal.Val.final_u, tab_eq c h R]
  funext i
  exact (congrArg (fun q => kU _ _ q (i 0) (i 2) (i 3)) (chan_eq c h R (i 1))).trans (kU_coe _ _ _ _ _ _)

/-- The kernel's filter gradient is the reference's. -/
theorem res_k (c : Dev Cert.KernelIdeal.nD) (h : Agree m m' c) (R : Cert.ReferenceIdeal.Val.RealArgs m' c) :
    (Cert.KernelIdeal.Gen.dats m 0 c).arrAt 13 Cert.KernelIdeal.cfg0.N
      = fun i : Cert.KernelIdeal.S864x64x256.Idx => vK (FloatOps.ofBits (F := Ideal) .f32 0x38000000#32) (Cert.ReferenceIdeal.Val.tabV m' c)
          ((Cert.ReferenceIdeal.Val.dataV m' c).chan (i 0)) (i 1) (i 2) := by
  rw [Cert.KernelIdeal.Val.final_k, tab_eq c h R]
  funext i
  exact (congrArg (fun q => kK _ _ q (i 1) (i 2)) (chan_eq c h R (i 0))).trans (kK_coe _ _ _ _ _)

/-- The kernel's skip weight gradient is the reference's. -/
theorem res_q (c : Dev Cert.KernelIdeal.nD) (h : Agree m m' c) (R : Cert.ReferenceIdeal.Val.RealArgs m' c) :
    (Cert.KernelIdeal.Gen.dats m 0 c).arrAt 14 Cert.KernelIdeal.cfg0.N
      = fun i : Cert.KernelIdeal.S864x1x128.Idx => ((vQ ((Cert.ReferenceIdeal.Val.dataV m' c).chan (i 0)) : ℝ) : EReal) := by
  rw [Cert.KernelIdeal.Val.final_q]
  funext i
  exact (congrArg kQ (chan_eq c h R (i 0))).trans (kQ_coe _)

end

/-- From finite arguments, over the extended real numbers, the kernel and the reference leave the same three results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hagree
  have R : ∀ c, Cert.ReferenceIdeal.Val.RealArgs m' c := fun c => realArgs hpre c (hagree c)
  refine ⟨fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N, Cert.KernelIdeal.Value.run_blocks m g, ?_⟩
  refine (θ_run _ _ _).mono (fun r h c => ?_) (Cert.ReferenceIdeal.Val.run_results m' g' R)
  obtain ⟨hu, hk, hq, hargs⟩ := h c
  exact ⟨hu.trans (res_u c (hagree c) (R c)).symm, hk.trans (res_k c (hagree c) (R c)).symm, hq.trans (res_q c (hagree c) (R c)).symm, hargs⟩

/-- The frame claims, `preserves`, and the equality of the three results. -/
theorem claim : Cert.Claim :=
  ⟨Cert.Kernel.Gen.facts, Cert.KernelIdeal.Gen.facts, Cert.ReferenceIdeal.Gen.facts, Cert.Pre_finite.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, trivial, algebraic⟩

end Cert.Proof

end
